-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Reference [hPre_in_range : Cert.Pre_in_range.Facts] (m : (ℓ : Loc Cert.Reference.nD Cert.Reference.τ Cert.Reference.sig) → Buf (Elt Bits) ℓ) : Prop :=
  ∀ c : Dev Cert.Reference.nD,
    (Cert.Pre_in_range.fn (F := Bits) (m ((c.tc : Thread Cert.Reference.nD Cert.Reference.τ).loc Cert.Reference.main_arg0)) (m ((c.tc : Thread Cert.Reference.nD Cert.Reference.τ).loc Cert.Reference.main_arg1))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] [hPre_in_range : Cert.Pre_in_range.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v2)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v2) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v0) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def Claim : Prop :=
  ∃ (hKernel : Cert.Kernel.Facts) (hKernelIdeal : Cert.KernelIdeal.Facts) (hReferenceIdeal : Cert.ReferenceIdeal.Facts) (hReference : Cert.Reference.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal) (hPre_in_range := hPre_in_range)
    ∧ quiescent_Reference (hReference := hReference) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
    ∧ bitexact_Kernel_Reference (hKernel := hKernel) (hReference := hReference) (hPre_in_range := hPre_in_range)
-- ==== Pre_in_range.lean ====
abbrev S4096x200 : Shape := ⟨2, ![4096, 200]⟩
abbrev S100000x128 : Shape := ⟨2, ![100000, 128]⟩
abbrev S_ : Shape := ⟨0, ![]⟩

class Facts : Prop where
  bcast_S_S4096x200 : S_.BroadcastsInDim S4096x200 (![] : Fin 0 → Fin S4096x200.rank)
  reducesTo_S4096x200_S_d0_1 : S4096x200.ReducesTo [0, 1] S_
  h_S_ : 0 < S_.numel

variable [Facts]

def fn {F : FTy → Type} [FloatOps F] (main_arg0 : IVec S4096x200 32) (main_arg1 : FVec F S100000x128 .f32) : IVec S_ 1 :=
  let main_c : IVec S_ 32 := constantI S_ 32 0#32
  let main_v0 : IVec S4096x200 32 := broadcastInDim S4096x200 ![] bcast_S_S4096x200 main_c
  let main_v1 : IVec S4096x200 1 := cmpi .sge main_arg0 main_v0
  let main_c_0 : IVec S_ 1 := constantI S_ 1 1#1
  let main_v2 : IVec S_ 1 := (fun x v => Host.reduce IntOp.andi x v reducesTo_S4096x200_S_d0_1 h_S_) main_v1 main_c_0
  let main_c_1 : IVec S_ 32 := constantI S_ 32 100000#32
  let main_v3 : IVec S4096x200 32 := broadcastInDim S4096x200 ![] bcast_S_S4096x200 main_c_1
  let main_v4 : IVec S4096x200 1 := cmpi .slt main_arg0 main_v3
  let main_c_2 : IVec S_ 1 := constantI S_ 1 1#1
  let main_v5 : IVec S_ 1 := (fun x v => Host.reduce IntOp.andi x v reducesTo_S4096x200_S_d0_1 h_S_) main_v4 main_c_2
  let main_v6 : IVec S_ 1 := andi main_v2 main_v5
  main_v6
-- ==== Kernel.lean ====
abbrev S4096x200 : Shape := ⟨2, ![4096, 200]⟩
abbrev S100000x128 : Shape := ⟨2, ![100000, 128]⟩
abbrev S1x819200 : Shape := ⟨2, ![1, 819200]⟩
abbrev S819200x128 : Shape := ⟨2, ![819200, 128]⟩
abbrev S2x1x128 : Shape := ⟨3, ![2, 1, 128]⟩
abbrev S2 : Shape := ⟨1, ![2]⟩
abbrev S2x128x128 : Shape := ⟨3, ![2, 128, 128]⟩
abbrev S1x1x128 : Shape := ⟨3, ![1, 1, 128]⟩
abbrev S1x128 : Shape := ⟨2, ![1, 128]⟩
abbrev S1 : Shape := ⟨1, ![1]⟩
abbrev S_ : Shape := ⟨0, ![]⟩
abbrev S1x128x128 : Shape := ⟨3, ![1, 128, 128]⟩
abbrev S128x128 : Shape := ⟨2, ![128, 128]⟩
abbrev S128 : Shape := ⟨1, ![128]⟩
abbrev S4096x200x128 : Shape := ⟨3, ![4096, 200, 128]⟩

abbrev nBuf : Table → Nat
  | .hbm => 5
  | .local .scVector .vmem => 2
  | _ => 0

abbrev bufTy : (tb : Table) → Fin (nBuf tb) → BufTy
  | .hbm, ⟨0, _⟩ => ⟨S4096x200, .i32⟩
  | .hbm, ⟨1, _⟩ => ⟨S100000x128, .f32⟩
  | .hbm, ⟨2, _⟩ => ⟨S1x819200, .i32⟩
  | .hbm, ⟨3, _⟩ => ⟨S819200x128, .f32⟩
  | .hbm, ⟨4, _⟩ => ⟨S4096x200x128, .f32⟩
  | .local .scVector .vmem, ⟨0, _⟩ => ⟨S2x1x128, .i32⟩
  | .local .scVector .vmem, ⟨1, _⟩ => ⟨S2x128x128, .f32⟩
  | _, _ => ⟨S4096x200, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_arg1_scv : Ref sig .scVector := ⟨.hbm, 1, rfl⟩
abbrev main_v0_scv : Ref sig .scVector := ⟨.hbm, 2, rfl⟩
abbrev main_v1_scv : Ref sig .scVector := ⟨.hbm, 3, rfl⟩
abbrev cc0_scoped0 : Ref sig .scVector := ⟨.vmem, 0, rfl⟩
abbrev cc0_scoped2 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 : Fin 3 → Nat :=
  let c0_i32_13_r0 : BitVec 32 := 0#32
  let c2_i32_r0 : BitVec 32 := 2#32
  let v21_r0 : BitVec 32 := Scalar.remui c0_i32_13_r0 c2_i32_r0
  let c0_i32_14_r0 : BitVec 32 := 0#32
  let c0_i32_15_r0 : BitVec 32 := 0#32
  ![v21_r0.toNat, 0, 0]
def k0_off2 (i : grid0.Coords) : Fin 2 → Nat :=
  let c0_i32_16_r0 : BitVec 32 := 0#32
  let c128_i32_r0 : BitVec 32 := 128#32
  let c0_i32_1_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c200_i32 : BitVec 32 := 200#32
  let v4 : BitVec 32 := Scalar.muli v3 c200_i32
  let v7_r0 : BitVec 32 := Scalar.addi c0_i32_1_r0 v4
  let v22_r0 : BitVec 32 := Scalar.muli c128_i32_r0 v7_r0
  ![0, v22_r0.toNat]
def k0_off3 : Fin 1 → Nat :=
  let c0_i32_13_r0 : BitVec 32 := 0#32
  let c2_i32_r0 : BitVec 32 := 2#32
  let v21_r0 : BitVec 32 := Scalar.remui c0_i32_13_r0 c2_i32_r0
  ![v21_r0.toNat]
@[reducible] def k0_t1_loop : Scf.Loop 32 :=
  let c0_i32_26_r0 : BitVec 32 := 0#32
  let c200_i32_27_r0 : BitVec 32 := 200#32
  let v32_r0 : BitVec 32 := Scalar.addi c0_i32_26_r0 c200_i32_27_r0
  let c1_i32_28_r0 : BitVec 32 := 1#32
  ⟨c0_i32_26_r0, v32_r0, c1_i32_28_r0⟩
def k0_off4 (arg6_r0 : BitVec 32) : Fin 3 → Nat :=
  let c2_i32_99_r0 : BitVec 32 := 2#32
  let v144_r0 : BitVec 32 := Scalar.remui arg6_r0 c2_i32_99_r0
  let c0_i32_101_r0 : BitVec 32 := 0#32
  let c0_i32_102_r0 : BitVec 32 := 0#32
  ![v144_r0.toNat, 0, 0]
def k0_cond1 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c200_i32 : BitVec 32 := 200#32
  let v4 : BitVec 32 := Scalar.muli v3 c200_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c200_i32_62_r0 : BitVec 32 := 200#32
  let v74_r0 : BitVec 1 := Scalar.cmpi .eq v73_r0 c200_i32_62_r0
  let c0_i32_63_r0 : BitVec 32 := 0#32
  let v75_r0 : BitVec 32 := Scalar.select v74_r0 c0_i32_63_r0 v73_r0
  let v76_r0 : BitVec 32 := Scalar.addi v75_r0 v4
  let v82_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k0_t1
  let c199_i32_68_r0 : BitVec 32 := 199#32
  let v83_r0 : BitVec 1 := Scalar.cmpi .sge arg5_r0 c199_i32_68_r0
  let true_69_r0 : BitVec 1 := 1#1
  let v84_r0 : BitVec 1 := Scalar.xori v83_r0 true_69_r0
  let v85_r0 : BitVec 1 := Scalar.andi v82_r0 v84_r0
  let true_70_r0 : BitVec 1 := 1#1
  let v86_r0 : BitVec 1 := Scalar.andi v85_r0 true_70_r0
  let v87_r0 : BitVec 32 := Scalar.extui v86_r0
  let c0_i32_71_r0 : BitVec 32 := 0#32
  let v88_r0 : BitVec 1 := Scalar.cmpi .ne v87_r0 c0_i32_71_r0
  v88_r0

def k0_off5 (i : grid0.Coords) (arg10_r0 : BitVec 32) : Fin 2 → Nat :=
  let c0_i32_103_r0 : BitVec 32 := 0#32
  let c128_i32_100_r0 : BitVec 32 := 128#32
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c200_i32_62_r0 : BitVec 32 := 200#32
  let v74_r0 : BitVec 1 := Scalar.cmpi .eq v73_r0 c200_i32_62_r0
  let c0_i32_63_r0 : BitVec 32 := 0#32
  let v75_r0 : BitVec 32 := Scalar.select v74_r0 c0_i32_63_r0 v73_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c200_i32 : BitVec 32 := 200#32
  let v4 : BitVec 32 := Scalar.muli v3 c200_i32
  let v76_r0 : BitVec 32 := Scalar.addi v75_r0 v4
  let v145_r0 : BitVec 32 := Scalar.muli c128_i32_100_r0 v76_r0
  ![0, v145_r0.toNat]
def k0_off6 (arg6_r0 : BitVec 32) : Fin 1 → Nat :=
  let c2_i32_99_r0 : BitVec 32 := 2#32
  let v144_r0 : BitVec 32 := Scalar.remui arg6_r0 c2_i32_99_r0
  ![v144_r0.toNat]
def k0_off7 (arg7_r0 : BitVec 32) : Fin 3 → Nat :=
  let c2_i32_100_r0 : BitVec 32 := 2#32
  let v145_r0 : BitVec 32 := Scalar.remui arg7_r0 c2_i32_100_r0
  let c0_i32_101_r0 : BitVec 32 := 0#32
  let c0_i32_102_r0 : BitVec 32 := 0#32
  ![v145_r0.toNat, 0, 0]
def k0_cond2 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c200_i32 : BitVec 32 := 200#32
  let v4 : BitVec 32 := Scalar.muli v3 c200_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c199_i32_59_r0 : BitVec 32 := 199#32
  let v70_r0 : BitVec 32 := Scalar.select v69_r0 c199_i32_59_r0 v68_r0
  let v71_r0 : BitVec 32 := Scalar.addi v70_r0 v4
  let v96_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k0_t1
  let c0_i32_54_r0 : BitVec 32 := 0#32
  let v64_r0 : BitVec 1 := Scalar.cmpi .eq arg5_r0 c0_i32_54_r0
  let v97_r0 : BitVec 1 := Scalar.ori v96_r0 v64_r0
  let c0_i32_76_r0 : BitVec 32 := 0#32
  let v98_r0 : BitVec 1 := Scalar.cmpi .sge arg5_r0 c0_i32_76_r0
  let v99_r0 : BitVec 1 := Scalar.andi v97_r0 v98_r0
  let v100_r0 : BitVec 32 := Scalar.extui v99_r0
  let c0_i32_77_r0 : BitVec 32 := 0#32
  let v101_r0 : BitVec 1 := Scalar.cmpi .ne v100_r0 c0_i32_77_r0
  v101_r0

def k0_off8 (i : grid0.Coords) (arg10_r0 : BitVec 32) : Fin 2 → Nat :=
  let c0_i32_103_r0 : BitVec 32 := 0#32
  let c128_i32_99_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c200_i32 : BitVec 32 := 200#32
  let v4 : BitVec 32 := Scalar.muli v3 c200_i32
  let v66_r0 : BitVec 32 := Scalar.addi arg10_r0 v4
  let v144_r0 : BitVec 32 := Scalar.muli c128_i32_99_r0 v66_r0
  ![0, v144_r0.toNat]
def k0_off9 (arg7_r0 : BitVec 32) : Fin 1 → Nat :=
  let c2_i32_100_r0 : BitVec 32 := 2#32
  let v145_r0 : BitVec 32 := Scalar.remui arg7_r0 c2_i32_100_r0
  ![v145_r0.toNat]
def k0_off10 (arg8_r0 : BitVec 32) : Fin 3 → Nat :=
  let c2_i32_81_r0 : BitVec 32 := 2#32
  let v109_r0 : BitVec 32 := Scalar.remui arg8_r0 c2_i32_81_r0
  let c0_i32_99_r1 : BitVec 32 := 0#32
  let c0_i32_100_r1 : BitVec 32 := 0#32
  ![v109_r0.toNat, 0, 0]

def k0_chk2 (arg8_r0 : BitVec 32) : Prop :=
  (∀ a, (k0_off10 arg8_r0) a + S1x128x128.size a ≤ S2x128x128.size a)
theorem k0_off10_inb : ∀ (arg8_r0 : BitVec 32) (k0_hw2 : k0_chk2 arg8_r0), ∀ a, (k0_off10 arg8_r0) a + S1x128x128.size a ≤ S2x128x128.size a := fun arg8_r0 k0_hw2 => k0_hw2

def k0_off11 (arg7_r0 : BitVec 32) : Fin 3 → Nat :=
  let c2_i32_80_r0 : BitVec 32 := 2#32
  let v108_r0 : BitVec 32 := Scalar.remui arg7_r0 c2_i32_80_r0
  let c0_i32_101_r1 : BitVec 32 := 0#32
  let c0_i32_102_r1 : BitVec 32 := 0#32
  ![v108_r0.toNat, 0, 0]

def k0_chk3 (arg7_r0 : BitVec 32) : Prop :=
  (∀ a, (k0_off11 arg7_r0) a + S1x1x128.size a ≤ S2x1x128.size a)
theorem k0_off11_inb : ∀ (arg7_r0 : BitVec 32) (k0_hw3 : k0_chk3 arg7_r0), ∀ a, (k0_off11 arg7_r0) a + S1x1x128.size a ≤ S2x1x128.size a := fun arg7_r0 k0_hw3 => k0_hw3

def k0_off12 (arg8_r0 : BitVec 32) : Fin 3 → Nat :=
  let c2_i32_99_r0 : BitVec 32 := 2#32
  let v144_r0 : BitVec 32 := Scalar.remui arg8_r0 c2_i32_99_r0
  let c0_i32_101_r0 : BitVec 32 := 0#32
  let c0_i32_102_r0 : BitVec 32 := 0#32
  ![v144_r0.toNat, 0, 0]
def k0_cond5 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c200_i32 : BitVec 32 := 200#32
  let v4 : BitVec 32 := Scalar.muli v3 c200_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c200_i32_62_r0 : BitVec 32 := 200#32
  let v74_r0 : BitVec 1 := Scalar.cmpi .eq v73_r0 c200_i32_62_r0
  let c0_i32_63_r0 : BitVec 32 := 0#32
  let v75_r0 : BitVec 32 := Scalar.select v74_r0 c0_i32_63_r0 v73_r0
  let v76_r0 : BitVec 32 := Scalar.addi v75_r0 v4
  let v115_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k0_t1
  let c199_i32_55_r0 : BitVec 32 := 199#32
  let v65_r0 : BitVec 1 := Scalar.cmpi .eq arg5_r0 c199_i32_55_r0
  let v116_r0 : BitVec 1 := Scalar.ori v115_r0 v65_r0
  let v117_r0 : BitVec 32 := Scalar.extui v116_r0
  let c0_i32_84_r0 : BitVec 32 := 0#32
  let v118_r0 : BitVec 1 := Scalar.cmpi .ne v117_r0 c0_i32_84_r0
  v118_r0

def k0_off13 (i : grid0.Coords) (arg10_r0 : BitVec 32) : Fin 2 → Nat :=
  let c128_i32_100_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c200_i32 : BitVec 32 := 200#32
  let v4 : BitVec 32 := Scalar.muli v3 c200_i32
  let v66_r0 : BitVec 32 := Scalar.addi arg10_r0 v4
  let v145_r0 : BitVec 32 := Scalar.muli c128_i32_100_r0 v66_r0
  let c0_i32_103_r0 : BitVec 32 := 0#32
  ![v145_r0.toNat, 0]
def k0_off14 (arg8_r0 : BitVec 32) : Fin 1 → Nat :=
  let c2_i32_99_r0 : BitVec 32 := 2#32
  let v144_r0 : BitVec 32 := Scalar.remui arg8_r0 c2_i32_99_r0
  ![v144_r0.toNat]
def k0_off15 (arg9_r0 : BitVec 32) : Fin 3 → Nat :=
  let c2_i32_99_r0 : BitVec 32 := 2#32
  let v144_r0 : BitVec 32 := Scalar.remui arg9_r0 c2_i32_99_r0
  let c0_i32_101_r0 : BitVec 32 := 0#32
  let c0_i32_102_r0 : BitVec 32 := 0#32
  ![v144_r0.toNat, 0, 0]
def k0_cond7 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c200_i32 : BitVec 32 := 200#32
  let v4 : BitVec 32 := Scalar.muli v3 c200_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c199_i32_59_r0 : BitVec 32 := 199#32
  let v70_r0 : BitVec 32 := Scalar.select v69_r0 c199_i32_59_r0 v68_r0
  let v71_r0 : BitVec 32 := Scalar.addi v70_r0 v4
  let v128_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k0_t1
  let c0_i32_54_r0 : BitVec 32 := 0#32
  let v64_r0 : BitVec 1 := Scalar.cmpi .eq arg5_r0 c0_i32_54_r0
  let true_90_r0 : BitVec 1 := 1#1
  let v129_r0 : BitVec 1 := Scalar.xori v64_r0 true_90_r0
  let v130_r0 : BitVec 1 := Scalar.andi v128_r0 v129_r0
  let v131_r0 : BitVec 32 := Scalar.extui v130_r0
  let c0_i32_91_r0 : BitVec 32 := 0#32
  let v132_r0 : BitVec 1 := Scalar.cmpi .ne v131_r0 c0_i32_91_r0
  v132_r0

def k0_off16 (i : grid0.Coords) (arg10_r0 : BitVec 32) : Fin 2 → Nat :=
  let c128_i32_100_r0 : BitVec 32 := 128#32
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c199_i32_59_r0 : BitVec 32 := 199#32
  let v70_r0 : BitVec 32 := Scalar.select v69_r0 c199_i32_59_r0 v68_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c200_i32 : BitVec 32 := 200#32
  let v4 : BitVec 32 := Scalar.muli v3 c200_i32
  let v71_r0 : BitVec 32 := Scalar.addi v70_r0 v4
  let v145_r0 : BitVec 32 := Scalar.muli c128_i32_100_r0 v71_r0
  let c0_i32_103_r0 : BitVec 32 := 0#32
  ![v145_r0.toNat, 0]
def k0_off17 (arg9_r0 : BitVec 32) : Fin 1 → Nat :=
  let c2_i32_99_r0 : BitVec 32 := 2#32
  let v144_r0 : BitVec 32 := Scalar.remui arg9_r0 c2_i32_99_r0
  ![v144_r0.toNat]

def k0_chk1 (i : grid0.Coords) (k0_t1 : Fin k0_t1_loop.trips) (arg6_r0 : BitVec 32) (arg7_r0 : BitVec 32) (arg8_r0 : BitVec 32) (arg9_r0 : BitVec 32) (arg10_r0 : BitVec 32) : Prop :=
  (∀ (k0_h1 : k0_cond1 i k0_t1 arg10_r0 = 1#1), ∀ a, (k0_off4 arg6_r0) a + S1x1x128.size a ≤ S2x1x128.size a) ∧
  (∀ (k0_h1 : k0_cond1 i k0_t1 arg10_r0 = 1#1), ∀ a, (k0_off5 i arg10_r0) a + S1x128.size a ≤ S1x819200.size a) ∧
  (∀ (k0_h1 : k0_cond1 i k0_t1 arg10_r0 = 1#1), ∀ a, (k0_off6 arg6_r0) a + S1.size a ≤ S2.size a) ∧
  (∀ (k0_h2 : k0_cond2 i k0_t1 arg10_r0 = 1#1), ∀ a, (k0_off7 arg7_r0) a + S1x1x128.size a ≤ S2x1x128.size a) ∧
  (∀ (k0_h2 : k0_cond2 i k0_t1 arg10_r0 = 1#1), ∀ a, (k0_off8 i arg10_r0) a + S1x128.size a ≤ S1x819200.size a) ∧
  (∀ (k0_h2 : k0_cond2 i k0_t1 arg10_r0 = 1#1), ∀ a, (k0_off9 arg7_r0) a + S1.size a ≤ S2.size a) ∧
  (∀ (k0_h5 : k0_cond5 i k0_t1 arg10_r0 = 1#1), ∀ a, (k0_off12 arg8_r0) a + S1x128x128.size a ≤ S2x128x128.size a) ∧
  (∀ (k0_h5 : k0_cond5 i k0_t1 arg10_r0 = 1#1), ∀ a, (k0_off13 i arg10_r0) a + S128x128.size a ≤ S819200x128.size a) ∧
  (∀ (k0_h5 : k0_cond5 i k0_t1 arg10_r0 = 1#1), ∀ a, (k0_off14 arg8_r0) a + S1.size a ≤ S2.size a) ∧
  (∀ (k0_h7 : k0_cond7 i k0_t1 arg10_r0 = 1#1), ∀ a, (k0_off15 arg9_r0) a + S1x128x128.size a ≤ S2x128x128.size a) ∧
  (∀ (k0_h7 : k0_cond7 i k0_t1 arg10_r0 = 1#1), ∀ a, (k0_off16 i arg10_r0) a + S128x128.size a ≤ S819200x128.size a) ∧
  (∀ (k0_h7 : k0_cond7 i k0_t1 arg10_r0 = 1#1), ∀ a, (k0_off17 arg9_r0) a + S1.size a ≤ S2.size a)
theorem k0_off4_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off4 arg6_r0) a + S1x1x128.size a ≤ S2x1x128.size a := fun i k0_t1 arg6_r0 arg7_r0 arg8_r0 arg9_r0 arg10_r0 k0_hw1 k0_h1 => k0_hw1.1 k0_h1
theorem k0_off5_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off5 i arg10_r0) a + S1x128.size a ≤ S1x819200.size a := fun i k0_t1 arg6_r0 arg7_r0 arg8_r0 arg9_r0 arg10_r0 k0_hw1 k0_h1 => k0_hw1.2.1 k0_h1
theorem k0_off6_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off6 arg6_r0) a + S1.size a ≤ S2.size a := fun i k0_t1 arg6_r0 arg7_r0 arg8_r0 arg9_r0 arg10_r0 k0_hw1 k0_h1 => k0_hw1.2.2.1 k0_h1
theorem k0_off7_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off7 arg7_r0) a + S1x1x128.size a ≤ S2x1x128.size a := fun i k0_t1 arg6_r0 arg7_r0 arg8_r0 arg9_r0 arg10_r0 k0_hw1 k0_h2 => k0_hw1.2.2.2.1 k0_h2
theorem k0_off8_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off8 i arg10_r0) a + S1x128.size a ≤ S1x819200.size a := fun i k0_t1 arg6_r0 arg7_r0 arg8_r0 arg9_r0 arg10_r0 k0_hw1 k0_h2 => k0_hw1.2.2.2.2.1 k0_h2
theorem k0_off9_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off9 arg7_r0) a + S1.size a ≤ S2.size a := fun i k0_t1 arg6_r0 arg7_r0 arg8_r0 arg9_r0 arg10_r0 k0_hw1 k0_h2 => k0_hw1.2.2.2.2.2.1 k0_h2
theorem k0_off12_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off12 arg8_r0) a + S1x128x128.size a ≤ S2x128x128.size a := fun i k0_t1 arg6_r0 arg7_r0 arg8_r0 arg9_r0 arg10_r0 k0_hw1 k0_h5 => k0_hw1.2.2.2.2.2.2.1 k0_h5
theorem k0_off13_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off13 i arg10_r0) a + S128x128.size a ≤ S819200x128.size a := fun i k0_t1 arg6_r0 arg7_r0 arg8_r0 arg9_r0 arg10_r0 k0_hw1 k0_h5 => k0_hw1.2.2.2.2.2.2.2.1 k0_h5
theorem k0_off14_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off14 arg8_r0) a + S1.size a ≤ S2.size a := fun i k0_t1 arg6_r0 arg7_r0 arg8_r0 arg9_r0 arg10_r0 k0_hw1 k0_h5 => k0_hw1.2.2.2.2.2.2.2.2.1 k0_h5
theorem k0_off15_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off15 arg9_r0) a + S1x128x128.size a ≤ S2x128x128.size a := fun i k0_t1 arg6_r0 arg7_r0 arg8_r0 arg9_r0 arg10_r0 k0_hw1 k0_h7 => k0_hw1.2.2.2.2.2.2.2.2.2.1 k0_h7
theorem k0_off16_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off16 i arg10_r0) a + S128x128.size a ≤ S819200x128.size a := fun i k0_t1 arg6_r0 arg7_r0 arg8_r0 arg9_r0 arg10_r0 k0_hw1 k0_h7 => k0_hw1.2.2.2.2.2.2.2.2.2.2.1 k0_h7
theorem k0_off17_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off17 arg9_r0) a + S1.size a ≤ S2.size a := fun i k0_t1 arg6_r0 arg7_r0 arg8_r0 arg9_r0 arg10_r0 k0_hw1 k0_h7 => k0_hw1.2.2.2.2.2.2.2.2.2.2.2 k0_h7

def k0_off18 (v33_3_r0 : BitVec 32) : Fin 3 → Nat :=
  let c2_i32_46_r0 : BitVec 32 := 2#32
  let v54_r0 : BitVec 32 := Scalar.remui v33_3_r0 c2_i32_46_r0
  let c0_i32_48_r0 : BitVec 32 := 0#32
  let c0_i32_49_r0 : BitVec 32 := 0#32
  ![v54_r0.toNat, 0, 0]

def k0_off19 (i : grid0.Coords) (v33_4_r0 : BitVec 32) : Fin 2 → Nat :=
  let c128_i32_47_r0 : BitVec 32 := 128#32
  let true_31_r0 : BitVec 1 := 1#1
  let c1_i32_30_r0 : BitVec 32 := 1#32
  let v34_r0 : BitVec 32 := Scalar.subi v33_4_r0 c1_i32_30_r0
  let v35_r0 : BitVec 32 := Scalar.select true_31_r0 v34_r0 v33_4_r0
  let c_m1_i32_32_r0 : BitVec 32 := 4294967295#32
  let v36_r0 : BitVec 1 := Scalar.cmpi .eq v35_r0 c_m1_i32_32_r0
  let c199_i32_33_r0 : BitVec 32 := 199#32
  let v37_r0 : BitVec 32 := Scalar.select v36_r0 c199_i32_33_r0 v35_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c200_i32 : BitVec 32 := 200#32
  let v4 : BitVec 32 := Scalar.muli v3 c200_i32
  let v38_r0 : BitVec 32 := Scalar.addi v37_r0 v4
  let v55_r0 : BitVec 32 := Scalar.muli c128_i32_47_r0 v38_r0
  let c0_i32_50_r0 : BitVec 32 := 0#32
  ![v55_r0.toNat, 0]

def k0_chk5 (i : grid0.Coords) (v33_4_r0 : BitVec 32) : Prop :=
  (∀ a, (k0_off19 i v33_4_r0) a + S128x128.size a ≤ S819200x128.size a)
theorem k0_off19_inb : ∀ (i : grid0.Coords) (v33_4_r0 : BitVec 32) (k0_hw5 : k0_chk5 i v33_4_r0), ∀ a, (k0_off19 i v33_4_r0) a + S128x128.size a ≤ S819200x128.size a := fun i v33_4_r0 k0_hw5 => k0_hw5

def k0_off20 (v33_3_r0 : BitVec 32) : Fin 1 → Nat :=
  let c2_i32_46_r0 : BitVec 32 := 2#32
  let v54_r0 : BitVec 32 := Scalar.remui v33_3_r0 c2_i32_46_r0
  ![v54_r0.toNat]
def k0_off21 (v33_3_r0 : BitVec 32) : Fin 3 → Nat :=
  let c2_i32_46_r0 : BitVec 32 := 2#32
  let v54_r0 : BitVec 32 := Scalar.remui v33_3_r0 c2_i32_46_r0
  let c0_i32_52_r0 : BitVec 32 := 0#32
  let c0_i32_53_r0 : BitVec 32 := 0#32
  ![v54_r0.toNat, 0, 0]

def k0_chk4 (v33_3_r0 : BitVec 32) : Prop :=
  (∀ a, (k0_off18 v33_3_r0) a + S1x128x128.size a ≤ S2x128x128.size a) ∧
  (∀ a, (k0_off20 v33_3_r0) a + S1.size a ≤ S2.size a) ∧
  (∀ a, (k0_off21 v33_3_r0) a + S1x128x128.size a ≤ S2x128x128.size a)
theorem k0_off18_inb : ∀ (v33_3_r0 : BitVec 32) (k0_hw4 : k0_chk4 v33_3_r0), ∀ a, (k0_off18 v33_3_r0) a + S1x128x128.size a ≤ S2x128x128.size a := fun v33_3_r0 k0_hw4 => k0_hw4.1
theorem k0_off20_inb : ∀ (v33_3_r0 : BitVec 32) (k0_hw4 : k0_chk4 v33_3_r0), ∀ a, (k0_off20 v33_3_r0) a + S1.size a ≤ S2.size a := fun v33_3_r0 k0_hw4 => k0_hw4.2.1
theorem k0_off21_inb : ∀ (v33_3_r0 : BitVec 32) (k0_hw4 : k0_chk4 v33_3_r0), ∀ a, (k0_off21 v33_3_r0) a + S1x128x128.size a ≤ S2x128x128.size a := fun v33_3_r0 k0_hw4 => k0_hw4.2.2

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Reference.lean ====
abbrev S4096x200 : Shape := ⟨2, ![4096, 200]⟩
abbrev S100000x128 : Shape := ⟨2, ![100000, 128]⟩
abbrev S_ : Shape := ⟨0, ![]⟩
abbrev S4096x200x1 : Shape := ⟨3, ![4096, 200, 1]⟩
abbrev S1 : Shape := ⟨1, ![1]⟩
abbrev S1x1x1 : Shape := ⟨3, ![1, 1, 1]⟩
abbrev S4096x200x128 : Shape := ⟨3, ![4096, 200, 128]⟩

abbrev nBuf : Space → Nat
  | .hbm => 25
  | .vmem => 0
  | .smem => 0
  | _ => 0

abbrev bufTy : (tb : Table) → Fin (tcTables nBuf tb) → BufTy
  | .hbm, ⟨0, _⟩ => ⟨S4096x200, .i32⟩
  | .hbm, ⟨1, _⟩ => ⟨S100000x128, .f32⟩
  | .hbm, ⟨2, _⟩ => ⟨S_, .i32⟩
  | .hbm, ⟨3, _⟩ => ⟨S4096x200, .i32⟩
  | .hbm, ⟨4, _⟩ => ⟨S4096x200, .i1⟩
  | .hbm, ⟨5, _⟩ => ⟨S_, .i32⟩
  | .hbm, ⟨6, _⟩ => ⟨S4096x200, .i32⟩
  | .hbm, ⟨7, _⟩ => ⟨S4096x200, .i32⟩
  | .hbm, ⟨8, _⟩ => ⟨S4096x200, .i32⟩
  | .hbm, ⟨9, _⟩ => ⟨S4096x200x1, .i32⟩
  | .hbm, ⟨10, _⟩ => ⟨S1, .i32⟩
  | .hbm, ⟨11, _⟩ => ⟨S_, .i32⟩
  | .hbm, ⟨12, _⟩ => ⟨S4096x200x1, .i32⟩
  | .hbm, ⟨13, _⟩ => ⟨S4096x200x1, .i1⟩
  | .hbm, ⟨14, _⟩ => ⟨S1x1x1, .i32⟩
  | .hbm, ⟨15, _⟩ => ⟨S4096x200x1, .i32⟩
  | .hbm, ⟨16, _⟩ => ⟨S4096x200x1, .i1⟩
  | .hbm, ⟨17, _⟩ => ⟨S4096x200x1, .i1⟩
  | .hbm, ⟨18, _⟩ => ⟨S_, .i1⟩
  | .hbm, ⟨19, _⟩ => ⟨S4096x200, .i1⟩
  | .hbm, ⟨20, _⟩ => ⟨S4096x200x128, .f32⟩
  | .hbm, ⟨21, _⟩ => ⟨S4096x200x128, .i1⟩
  | .hbm, ⟨22, _⟩ => ⟨S_, .f32⟩
  | .hbm, ⟨23, _⟩ => ⟨S4096x200x128, .f32⟩
  | .hbm, ⟨24, _⟩ => ⟨S4096x200x128, .f32⟩
  | _, _ => ⟨S4096x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]
-- ==== Proof.Words.lean ====
/- The words the pipeline carries from one trip to the next, and what the kernel computes from them:
   slots, places of the two arrays, conditions and checks, each in closed form.

   A tile works through 200 blocks of 128 indices. The pipeline keeps five counters: index slots filled,
   index slots used, row slots filled, row slots drained, and the block at hand. -/
module

public import proofs.«01_k».proof.Proof.Gen.KernelIdeal.Skeleton

@[expose] public section

noncomputable section

namespace Cert.Proof.Lookup

open Idealize.ShloMosaic Cert.KernelIdeal

/-- The first row of a tile's share of the output, counted over both SparseCores. -/
def first (i : grid0.Coords) : ℕ := 25600 * (i 1).val + 409600 * (i 0).val

/-- The number of the tile's first block, as the kernel computes it. -/
def blockWord (i : grid0.Coords) : BitVec 32 :=
  Scalar.muli (Scalar.addi (Scalar.addi 0#32 (Scalar.muli (BitVec.ofNat 32 (i 1).val) 1#32))
    (Scalar.muli (BitVec.ofNat 32 (i 0).val) 16#32)) 200#32

/-- The five counters before trip `n`. -/
def filled (n : ℕ) : BitVec 32 := BitVec.ofNat 32 (min (n + 1) 200)
def used (n : ℕ) : BitVec 32 := BitVec.ofNat 32 n
def drained (n : ℕ) : BitVec 32 := BitVec.ofNat 32 (n - 1)
def atBlock (n : ℕ) : BitVec 32 := BitVec.ofNat 32 (n % 200)

def counters (n : ℕ) : BitVec 32 × BitVec 32 × BitVec 32 × BitVec 32 × BitVec 32 :=
  (filled n, used n, used n, drained n, atBlock n)

/-- The block before this one and the block after it, wrapped round as the kernel wraps them. -/
def prevWord (v4 a : BitVec 32) : BitVec 32 :=
  Scalar.addi (Scalar.select (Scalar.cmpi .eq (Scalar.select 1#1 (Scalar.subi a 1#32) a) 4294967295#32) 199#32
    (Scalar.select 1#1 (Scalar.subi a 1#32) a)) v4
def nextWord (v4 a : BitVec 32) : BitVec 32 :=
  Scalar.addi (Scalar.select (Scalar.cmpi .eq (Scalar.select 1#1 (Scalar.addi a 1#32) a) 200#32) 0#32
    (Scalar.select 1#1 (Scalar.addi a 1#32) a)) v4

/-- The counters a trip leaves, as the kernel computes them from those it found. -/
def stepped (v4 : BitVec 32) (t : Fin k0_t1_loop.trips) (a6 a7 a8 a9 a10 : BitVec 32) :
    BitVec 32 × BitVec 32 × BitVec 32 × BitVec 32 × BitVec 32 :=
  let a5 : BitVec 32 := Scf.iv 0#32 1#32 t
  let first : BitVec 1 := Scalar.cmpi .eq a5 0#32
  let last : BitVec 1 := Scalar.cmpi .eq a5 199#32
  let here : BitVec 32 := Scalar.addi a10 v4
  let newNext : BitVec 1 := Scalar.cmpi .ne here (nextWord v4 a10)
  let newPrev : BitVec 1 := Scalar.cmpi .ne here (prevWord v4 a10)
  (Scalar.select (Scalar.andi (Scalar.andi newNext (Scalar.xori (Scalar.cmpi .sge a5 199#32) 1#1)) 1#1)
      (Scalar.addi a6 1#32) a6,
   Scalar.select (Scalar.ori newNext last) (Scalar.addi a7 1#32) a7,
   Scalar.select (Scalar.andi (Scalar.ori newNext last) 1#1) (Scalar.addi a8 1#32) a8,
   Scalar.select (Scalar.andi (Scalar.andi newPrev (Scalar.xori first 1#1)) 1#1) (Scalar.addi a9 1#32) a9,
   Scalar.select (Scalar.cmpi .eq (Scalar.select 1#1 (Scalar.addi a10 1#32) a10) 200#32) 0#32
     (Scalar.select 1#1 (Scalar.addi a10 1#32) a10))

theorem stepped_counters : ∀ (i : grid0.Coords) (t : Fin k0_t1_loop.trips),
    stepped (blockWord i) t (filled t) (used t) (used t) (drained t) (atBlock t) = counters (t + 1) := by
  decide +kernel

/-! ## Slots -/

theorem slot_lt (n : ℕ) : n % 2 < 2 := Nat.mod_lt _ (by omega)

theorem off4_eq : ∀ t : Fin 200, k0_off4 (filled t) = ![(t.val + 1) % 2, 0, 0] := by decide +kernel
theorem off6_eq : ∀ t : Fin 200, k0_off6 (filled t) = ![(t.val + 1) % 2] := by decide +kernel
theorem off7_eq : ∀ t : Fin 200, k0_off7 (used t) = ![t.val % 2, 0, 0] := by decide +kernel
theorem off9_eq : ∀ t : Fin 200, k0_off9 (used t) = ![t.val % 2] := by decide +kernel
theorem off10_eq : ∀ t : Fin 200, k0_off10 (used t) = ![t.val % 2, 0, 0] := by decide +kernel
theorem off11_eq : ∀ t : Fin 200, k0_off11 (used t) = ![t.val % 2, 0, 0] := by decide +kernel
theorem off12_eq : ∀ t : Fin 200, k0_off12 (used t) = ![t.val % 2, 0, 0] := by decide +kernel
theorem off14_eq : ∀ t : Fin 200, k0_off14 (used t) = ![t.val % 2] := by decide +kernel
theorem off15_eq : ∀ t : Fin 200, k0_off15 (drained t) = ![(t.val - 1) % 2, 0, 0] := by decide +kernel
theorem off17_eq : ∀ t : Fin 200, k0_off17 (drained t) = ![(t.val - 1) % 2] := by decide +kernel
theorem off20_eq : k0_off20 (drained 200) = ![199 % 2] := by decide +kernel
theorem off21_eq : k0_off21 (drained 200) = ![199 % 2, 0, 0] := by decide +kernel

/-! ## Places of the arrays -/

theorem off5_eq : ∀ (i : grid0.Coords) (t : Fin 200), t.val < 199 →
    k0_off5 i (atBlock t) = ![0, first i + 128 * (t.val + 1)] := by decide +kernel
theorem off8_eq : ∀ (i : grid0.Coords) (t : Fin 200),
    k0_off8 i (atBlock t) = ![0, first i + 128 * t.val] := by decide +kernel
theorem off13_eq : ∀ (i : grid0.Coords) (t : Fin 200),
    k0_off13 i (atBlock t) = ![first i + 128 * t.val, 0] := by decide +kernel
theorem off16_eq : ∀ (i : grid0.Coords) (t : Fin 200), 0 < t.val →
    k0_off16 i (atBlock t) = ![first i + 128 * (t.val - 1), 0] := by decide +kernel
theorem off19_eq : ∀ i : grid0.Coords, k0_off19 i (atBlock 200) = ![first i + 128 * 199, 0] := by
  decide +kernel

/-! ## Conditions -/

theorem cond1_iff : ∀ (i : grid0.Coords) (t : Fin k0_t1_loop.trips),
    k0_cond1 i t (atBlock t) = 1#1 ↔ t.val < 199 := by decide +kernel
theorem cond2_eq : ∀ (i : grid0.Coords) (t : Fin k0_t1_loop.trips),
    k0_cond2 i t (atBlock t) = 1#1 := by decide +kernel
theorem cond5_eq : ∀ (i : grid0.Coords) (t : Fin k0_t1_loop.trips),
    k0_cond5 i t (atBlock t) = 1#1 := by decide +kernel
theorem cond7_iff : ∀ (i : grid0.Coords) (t : Fin k0_t1_loop.trips),
    k0_cond7 i t (atBlock t) = 1#1 ↔ 0 < t.val := by decide +kernel

/-! ## Checks -/

theorem chk1 : ∀ (i : grid0.Coords) (t : Fin k0_t1_loop.trips),
    k0_chk1 i t (filled t) (used t) (used t) (drained t) (atBlock t) := by decide +kernel
theorem chk2 : ∀ t : Fin k0_t1_loop.trips, k0_chk2 (used t) := by decide +kernel
theorem chk3 : ∀ t : Fin k0_t1_loop.trips, k0_chk3 (used t) := by decide +kernel
theorem chk4 : k0_chk4 (drained 200) := by decide +kernel
theorem chk5 : ∀ i : grid0.Coords, k0_chk5 i (atBlock 200) := by decide +kernel

theorem first_le : ∀ i : grid0.Coords, first i + 25600 ≤ 819200 := by decide +kernel

end Cert.Proof.Lookup

end
-- ==== Proof.Places.lean ====
/- The places of the arrays a tile addresses: the two slots of each of its buffers, a block of the indices, a block of
   the output — the elements each covers and where its own indices fall. -/
module

public import proofs.«01_k».proof.Proof.Gen.KernelIdeal.Skeleton
public import Idealize.ShloMosaic.Lib.SparseCore.Stream

@[expose] public section

noncomputable section

namespace Cert.Proof.Lookup

open Idealize.ShloMosaic Cert.KernelIdeal Cert.KernelIdeal.Gen

local notation "iV" => (Memref.whole main_v0_scv : Memref sig Kind.scVector Space.hbm S1x819200 EltTy.i32)
local notation "tV" => (Memref.whole main_arg1_scv : Memref sig Kind.scVector Space.hbm S100000x128 EltTy.f32)
local notation "oV" => (Memref.whole main_v1_scv : Memref sig Kind.scVector Space.hbm S819200x128 EltTy.f32)
local notation "sI" => (Memref.whole cc0_scoped0 : Memref sig Kind.scVector Space.vmem S2x1x128 EltTy.i32)
local notation "sO" => (Memref.whole cc0_scoped2 : Memref sig Kind.scVector Space.vmem S2x128x128 EltTy.f32)

/-! ## The views, each at an offset -/

/-- One slot of the index buffer, as 128 words in a row. -/
abbrev slotI (o : Fin 3 → ℕ) (h : ∀ a, o a + S1x1x128.size a ≤ S2x1x128.size a) : Memref sig .scVector .vmem S1x128 .i32 :=
  ((sI).slice (Rect.unit (s := S2x1x128) o S1x1x128.size h) (fun _ => rfl)).squeeze S1x128 squeezes_S1x1x128_S1x128
/-- The same slot as a list of 128 words. -/
abbrev listI (o : Fin 3 → ℕ) (h : ∀ a, o a + S1x1x128.size a ≤ S2x1x128.size a) : Memref sig .scVector .vmem S128 .i32 :=
  ((slotI o h).slice (Rect.unit (s := S1x128) ![0, 0] S1x128.size inb_S1x128_S1x128_0_0) (fun _ => rfl)).squeeze S128 squeezes_S1x128_S128
/-- One slot of the row buffer. -/
abbrev slotO (o : Fin 3 → ℕ) (h : ∀ a, o a + S1x128x128.size a ≤ S2x128x128.size a) : Memref sig .scVector .vmem S128x128 .f32 :=
  ((sO).slice (Rect.unit (s := S2x128x128) o S1x128x128.size h) (fun _ => rfl)).squeeze S128x128 squeezes_S1x128x128_S128x128
/-- A block of the indices. -/
abbrev blockI (p : Fin 2 → ℕ) (h : ∀ a, p a + S1x128.size a ≤ S1x819200.size a) : Memref sig .scVector .hbm S1x128 .i32 :=
  (iV).slice (Rect.unit (s := S1x819200) p S1x128.size h) (fun _ => rfl)
/-- A block of the output. -/
abbrev blockO (p : Fin 2 → ℕ) (h : ∀ a, p a + S128x128.size a ≤ S819200x128.size a) : Memref sig .scVector .hbm S128x128 .f32 :=
  (oV).slice (Rect.unit (s := S819200x128) p S128x128.size h) (fun _ => rfl)
/-- All of the table. -/
abbrev tableV : Memref sig .scVector .hbm S100000x128 .f32 :=
  (tV).slice (Rect.unit (s := S100000x128) ![0, 0] S100000x128.size inb_S100000x128_S100000x128_0_0) (fun _ => rfl)
/-- One semaphore of a pair. -/
abbrev semAt (s : DmaSems sig S2) (q : Fin 1 → ℕ) (h : ∀ a, q a + S1.size a ≤ S2.size a) : DmaSem sig :=
  ((s.slice (Rect.unit (s := S2) q S1.size h)).squeeze S_ squeezes_S1_S_).sem

/-! ## The elements covered -/

/-- Slot `n`, modulo two, of the index buffer and of the row buffer. -/
def inSlotI (n : ℕ) : Finset S2x1x128.Idx := Finset.univ.filter fun x => (x 0).val = n % 2
def inSlotO (n : ℕ) : Finset S2x128x128.Idx := Finset.univ.filter fun x => (x 0).val = n % 2
/-- Indices `a` up to `b`, and output rows `a` up to `b`. -/
def cols (a b : ℕ) : Finset S1x819200.Idx := Finset.univ.filter fun x => a ≤ (x 1).val ∧ (x 1).val < b
def rows (a b : ℕ) : Finset S819200x128.Idx := Finset.univ.filter fun x => a ≤ (x 0).val ∧ (x 0).val < b

theorem mem_inSlotI {n : ℕ} {x : S2x1x128.Idx} : x ∈ inSlotI n ↔ (x 0).val = n % 2 := by simp [inSlotI]
theorem mem_inSlotO {n : ℕ} {x : S2x128x128.Idx} : x ∈ inSlotO n ↔ (x 0).val = n % 2 := by simp [inSlotO]
theorem mem_cols {a b : ℕ} {x : S1x819200.Idx} : x ∈ cols a b ↔ a ≤ (x 1).val ∧ (x 1).val < b := by simp [cols]
theorem mem_rows {a b : ℕ} {x : S819200x128.Idx} : x ∈ rows a b ↔ a ≤ (x 0).val ∧ (x 0).val < b := by simp [rows]

theorem inSlotI_add_two (n : ℕ) : inSlotI (n + 2) = inSlotI n := by unfold inSlotI; simp
theorem inSlotO_add_two (n : ℕ) : inSlotO (n + 2) = inSlotO n := by unfold inSlotO; simp

theorem cols_union {a b c : ℕ} (h : a ≤ b) (h' : b ≤ c) : cols a b ∪ cols b c = cols a c := by
  ext x; simp only [Finset.mem_union, mem_cols]; omega
theorem cols_disjoint (a b c : ℕ) : Disjoint (cols a b) (cols b c) :=
  Finset.disjoint_left.mpr fun x h h' => by rw [mem_cols] at h h'; omega
theorem cols_self (a : ℕ) : cols a a = ∅ := Finset.eq_empty_of_forall_notMem fun x h => by rw [mem_cols] at h; omega
theorem rows_union {a b c : ℕ} (h : a ≤ b) (h' : b ≤ c) : rows a b ∪ rows b c = rows a c := by
  ext x; simp only [Finset.mem_union, mem_rows]; omega
theorem rows_disjoint (a b c : ℕ) : Disjoint (rows a b) (rows b c) :=
  Finset.disjoint_left.mpr fun x h h' => by rw [mem_rows] at h h'; omega
theorem rows_self (a : ℕ) : rows a a = ∅ := Finset.eq_empty_of_forall_notMem fun x h => by rw [mem_rows] at h; omega
theorem slotsI_union : inSlotI 0 ∪ inSlotI 1 = Finset.univ := by
  ext x; have := (x 0).isLt; simp only [Finset.mem_union, mem_inSlotI, Finset.mem_univ, iff_true]
  have h : (x 0).val < 2 := (x 0).isLt
  omega
theorem slotsI_disjoint : Disjoint (inSlotI 0) (inSlotI 1) :=
  Finset.disjoint_left.mpr fun x h h' => by rw [mem_inSlotI] at h h'; omega
theorem slotsO_union : inSlotO 0 ∪ inSlotO 1 = Finset.univ := by
  ext x; simp only [Finset.mem_union, mem_inSlotO, Finset.mem_univ, iff_true]
  have h : (x 0).val < 2 := (x 0).isLt
  omega
theorem slotsO_disjoint : Disjoint (inSlotO 0) (inSlotO 1) :=
  Finset.disjoint_left.mpr fun x h h' => by rw [mem_inSlotO] at h h'; omega

/-! ## Where a view's own indices fall -/

theorem slotI_emb {n : ℕ} (h : ∀ a, (![n % 2, 0, 0] : Fin 3 → ℕ) a + S1x1x128.size a ≤ S2x1x128.size a) (y : S1x128.Idx) :
    ((slotI ![n % 2, 0, 0] h).view.emb y 0).val = n % 2 ∧ ((slotI ![n % 2, 0, 0] h).view.emb y 2).val = (y 1).val := by
  have e : Shape.reshapeEquiv squeezes_S1x1x128_S1x128.numel_eq y = (fun a => match a with | 0 => ⟨0, Nat.one_pos⟩ | 1 => y 0 | 2 => y 1 : S1x1x128.Idx) :=
    Shape.reshapeEquiv_eq_of_rowMajor _ (by
      rw [Shape.rowMajor_val_two, Shape.rowMajor_val_three]
      have h0 : (y 0).val < 1 := (y 0).isLt
      simp)
  constructor
  · show n % 2 + 1 * (Shape.reshapeEquiv squeezes_S1x1x128_S1x128.numel_eq y 0).val = n % 2
    rw [e]; simp
  · show 0 + 1 * (Shape.reshapeEquiv squeezes_S1x1x128_S1x128.numel_eq y 2).val = (y 1).val
    rw [e]; simp

theorem slotO_emb {n : ℕ} (h : ∀ a, (![n % 2, 0, 0] : Fin 3 → ℕ) a + S1x128x128.size a ≤ S2x128x128.size a) (y : S128x128.Idx) :
    ((slotO ![n % 2, 0, 0] h).view.emb y 0).val = n % 2 ∧ ((slotO ![n % 2, 0, 0] h).view.emb y 1).val = (y 0).val
      ∧ ((slotO ![n % 2, 0, 0] h).view.emb y 2).val = (y 1).val := by
  have e : Shape.reshapeEquiv squeezes_S1x128x128_S128x128.numel_eq y = (fun a => match a with | 0 => ⟨0, Nat.one_pos⟩ | 1 => y 0 | 2 => y 1 : S1x128x128.Idx) :=
    Shape.reshapeEquiv_eq_of_rowMajor _ (by
      rw [Shape.rowMajor_val_two, Shape.rowMajor_val_three]
      simp)
  refine ⟨?_, ?_, ?_⟩
  · show n % 2 + 1 * (Shape.reshapeEquiv squeezes_S1x128x128_S128x128.numel_eq y 0).val = n % 2
    rw [e]; simp
  · show 0 + 1 * (Shape.reshapeEquiv squeezes_S1x128x128_S128x128.numel_eq y 1).val = (y 0).val
    rw [e]; simp
  · show 0 + 1 * (Shape.reshapeEquiv squeezes_S1x128x128_S128x128.numel_eq y 2).val = (y 1).val
    rw [e]; simp

theorem listI_emb {n : ℕ} (h : ∀ a, (![n % 2, 0, 0] : Fin 3 → ℕ) a + S1x1x128.size a ≤ S2x1x128.size a) (y : S128.Idx) :
    ((listI ![n % 2, 0, 0] h).view.emb y 2).val = (y 0).val := by
  have e : Shape.reshapeEquiv squeezes_S1x128_S128.numel_eq y = (fun a => match a with | 0 => ⟨0, Nat.one_pos⟩ | 1 => y 0 : S1x128.Idx) :=
    Shape.reshapeEquiv_eq_of_rowMajor _ (by
      rw [Shape.rowMajor_val_two, Shape.rowMajor_val_one]
      simp)
  have e' : (listI ![n % 2, 0, 0] h).view.emb y = (slotI ![n % 2, 0, 0] h).view.emb
      ((Rect.unit (s := S1x128) ![0, 0] S1x128.size inb_S1x128_S1x128_0_0).emb (Shape.reshapeEquiv squeezes_S1x128_S128.numel_eq y)) := rfl
  rw [e', (slotI_emb h _).2, e]
  show 0 + 1 * (y 0).val = (y 0).val
  omega

theorem blockI_emb {b : ℕ} (h : ∀ a, (![0, b] : Fin 2 → ℕ) a + S1x128.size a ≤ S1x819200.size a) (y : S1x128.Idx) :
    ((blockI ![0, b] h).view.emb y 1).val = b + (y 1).val := by
  show b + 1 * (y 1).val = _
  omega

theorem blockO_emb {b : ℕ} (h : ∀ a, (![b, 0] : Fin 2 → ℕ) a + S128x128.size a ≤ S819200x128.size a) (y : S128x128.Idx) :
    ((blockO ![b, 0] h).view.emb y 0).val = b + (y 0).val ∧ ((blockO ![b, 0] h).view.emb y 1).val = (y 1).val := by
  constructor
  · show b + 1 * (y 0).val = _
    omega
  · show 0 + 1 * (y 1).val = _
    omega

theorem tableV_emb (y : S100000x128.Idx) : tableV.view.emb y = y := by
  funext a
  match a with
  | 0 => exact Fin.ext (show 0 + 1 * (y 0).val = (y 0).val by omega)
  | 1 => exact Fin.ext (show 0 + 1 * (y 1).val = (y 1).val by omega)

/-! ## The elements a view covers -/

theorem slotI_set {n : ℕ} (h : ∀ a, (![n % 2, 0, 0] : Fin 3 → ℕ) a + S1x1x128.size a ≤ S2x1x128.size a) :
    (slotI ![n % 2, 0, 0] h).view.set = inSlotI n := by
  have e : (slotI ![n % 2, 0, 0] h).view.set = (Rect.unit (s := S2x1x128) ![n % 2, 0, 0] S1x1x128.size h).set :=
    (View.set_reshape _ _).trans (View.set_slice_whole _ _)
  rw [e]
  ext x
  rw [Rect.mem_set_unit, mem_inSlotI]
  have h1 : (x 1).val < 1 := (x 1).isLt
  have h2 : (x 2).val < 128 := (x 2).isLt
  constructor
  · intro H
    have := H 0
    simp only [Matrix.cons_val_zero] at this
    have hs : S1x1x128.size 0 = 1 := rfl
    omega
  · intro H a
    match a with
    | 0 => show n % 2 ≤ (x 0).val ∧ (x 0).val < n % 2 + 1; omega
    | 1 => show 0 ≤ (x 1).val ∧ (x 1).val < 0 + 1; omega
    | 2 => show 0 ≤ (x 2).val ∧ (x 2).val < 0 + 128; omega

theorem listI_set {n : ℕ} (h : ∀ a, (![n % 2, 0, 0] : Fin 3 → ℕ) a + S1x1x128.size a ≤ S2x1x128.size a) :
    (listI ![n % 2, 0, 0] h).view.set = inSlotI n := by
  rw [← slotI_set h]
  have e : (listI ![n % 2, 0, 0] h).view.set
      = ((slotI ![n % 2, 0, 0] h).view.slice (Rect.unit (s := S1x128) ![0, 0] S1x128.size inb_S1x128_S1x128_0_0)).set :=
    View.set_reshape _ _
  rw [e, View.set_slice]
  have e' : (Rect.unit (s := S1x128) ![0, 0] S1x128.size inb_S1x128_S1x128_0_0).set = Finset.univ := by
    ext x
    rw [Rect.mem_set_unit]
    simp only [Finset.mem_univ, iff_true]
    intro a
    match a with
    | 0 => exact ⟨Nat.zero_le _, show (x 0).val < 0 + 1 from by have : (x 0).val < 1 := (x 0).isLt; omega⟩
    | 1 => exact ⟨Nat.zero_le _, show (x 1).val < 0 + 128 from by have : (x 1).val < 128 := (x 1).isLt; omega⟩
  rw [e']
  rfl

theorem slotO_set {n : ℕ} (h : ∀ a, (![n % 2, 0, 0] : Fin 3 → ℕ) a + S1x128x128.size a ≤ S2x128x128.size a) :
    (slotO ![n % 2, 0, 0] h).view.set = inSlotO n := by
  have e : (slotO ![n % 2, 0, 0] h).view.set = (Rect.unit (s := S2x128x128) ![n % 2, 0, 0] S1x128x128.size h).set :=
    (View.set_reshape _ _).trans (View.set_slice_whole _ _)
  rw [e]
  ext x
  rw [Rect.mem_set_unit, mem_inSlotO]
  have h1 : (x 1).val < 128 := (x 1).isLt
  have h2 : (x 2).val < 128 := (x 2).isLt
  constructor
  · intro H
    have := H 0
    simp only [Matrix.cons_val_zero] at this
    have hs : S1x128x128.size 0 = 1 := rfl
    omega
  · intro H a
    match a with
    | 0 => show n % 2 ≤ (x 0).val ∧ (x 0).val < n % 2 + 1; omega
    | 1 => show 0 ≤ (x 1).val ∧ (x 1).val < 0 + 128; omega
    | 2 => show 0 ≤ (x 2).val ∧ (x 2).val < 0 + 128; omega

theorem blockI_set {b : ℕ} (h : ∀ a, (![0, b] : Fin 2 → ℕ) a + S1x128.size a ≤ S1x819200.size a) :
    (blockI ![0, b] h).view.set = cols b (b + 128) := by
  have e : (blockI ![0, b] h).view.set = (Rect.unit (s := S1x819200) ![0, b] S1x128.size h).set := View.set_slice_whole _ _
  rw [e]
  ext x
  rw [Rect.mem_set_unit, mem_cols]
  have h1 : (x 0).val < 1 := (x 0).isLt
  constructor
  · intro H; exact H 1
  · intro H a
    match a with
    | 0 => show 0 ≤ (x 0).val ∧ (x 0).val < 0 + 1; omega
    | 1 => exact H

theorem blockO_set {b : ℕ} (h : ∀ a, (![b, 0] : Fin 2 → ℕ) a + S128x128.size a ≤ S819200x128.size a) :
    (blockO ![b, 0] h).view.set = rows b (b + 128) := by
  have e : (blockO ![b, 0] h).view.set = (Rect.unit (s := S819200x128) ![b, 0] S128x128.size h).set := View.set_slice_whole _ _
  rw [e]
  ext x
  rw [Rect.mem_set_unit, mem_rows]
  have h1 : (x 1).val < 128 := (x 1).isLt
  constructor
  · intro H; exact H 0
  · intro H a
    match a with
    | 0 => exact H
    | 1 => show 0 ≤ (x 1).val ∧ (x 1).val < 0 + 128; omega

theorem tableV_set : tableV.view.set = Finset.univ := by
  ext x
  simp only [Finset.mem_univ, iff_true]
  have h := View.emb_mem_set (v := tableV.view) x
  rw [tableV_emb] at h; exact h

end Cert.Proof.Lookup

end
-- ==== Proof.Values.lean ====
/- What the transfers leave: an index slot after its fetch, a row slot after its gather, a block of the output after its
   write-out — each as a function of the indices and the table. -/
module

public import proofs.«01_k».proof.Proof.Places

@[expose] public section

noncomputable section

namespace Cert.Proof.Lookup

open Idealize.ShloMosaic Cert.KernelIdeal Cert.KernelIdeal.Gen

variable {F : FTy → Type}

/-- Place `j` of the list of indices; column `k` of row `r` of the table. -/
def colAt (j : ℕ) : S1x819200.Idx := fun a => match a with
  | 0 => ⟨0, Nat.one_pos⟩
  | 1 => ⟨j % 819200, Nat.mod_lt _ (by decide)⟩
def tblAt (r k : ℕ) : S100000x128.Idx := fun a => match a with
  | 0 => ⟨r % 100000, Nat.mod_lt _ (by decide)⟩
  | 1 => ⟨k % 128, Nat.mod_lt _ (by decide)⟩

theorem colAt_eq (x : S1x819200.Idx) : colAt (x 1).val = x := by
  funext a
  match a with
  | 0 => exact Fin.ext (by have : (x 0).val < 1 := (x 0).isLt; show 0 = (x 0).val; omega)
  | 1 => exact Fin.ext (Nat.mod_eq_of_lt (x 1).isLt)
theorem tblAt_eq (x : S100000x128.Idx) : tblAt (x 0).val (x 1).val = x := by
  funext a
  match a with
  | 0 => exact Fin.ext (Nat.mod_eq_of_lt (x 0).isLt)
  | 1 => exact Fin.ext (Nat.mod_eq_of_lt (x 1).isLt)

variable (I : S1x819200.Idx → Elt F .i32) (T : S100000x128.Idx → Elt F .f32)

/-- The lookup: row `y 0` of the output is the table's row that index `y 0` names. -/
def looked : S819200x128.Idx → Elt F .f32 := fun y => T (tblAt (I (colAt (y 0).val)).toNat (y 1).val)
/-- A slot of the index buffer that holds the indices from `b` on. -/
def idxSlot (b : ℕ) : S2x1x128.Idx → Elt F .i32 := fun x => I (colAt (b + (x 2).val))
/-- A slot of the row buffer that holds the rows those indices name. -/
def rowSlot (b : ℕ) : S2x128x128.Idx → Elt F .f32 := fun x => T (tblAt (I (colAt (b + (x 1).val))).toNat (x 2).val)

variable {n b : ℕ}

theorem fetched (h : ∀ a, (![n % 2, 0, 0] : Fin 3 → ℕ) a + S1x1x128.size a ≤ S2x1x128.size a)
    (h' : ∀ a, (![0, b] : Fin 2 → ℕ) a + S1x128.size a ≤ S1x819200.size a) (f : S2x1x128.Idx → Elt F .i32)
    (x : S2x1x128.Idx) (hx : x ∈ inSlotI n) :
    (slotI ![n % 2, 0, 0] h).view.write (Elt F) f ((blockI ![0, b] h').view.read (Elt F) I) Finset.univ x = idxSlot I b x := by
  rw [← slotI_set h] at hx
  obtain ⟨y, -, rfl⟩ := Finset.mem_map.mp hx
  rw [View.write_emb_of_mem _ _ (Finset.mem_univ y)]
  show I ((blockI ![0, b] h').view.emb y) = I _
  rw [← colAt_eq ((blockI ![0, b] h').view.emb y), blockI_emb, (slotI_emb h y).2]

/-- The list of a slot, word by word. -/
theorem listI_read (h : ∀ a, (![n % 2, 0, 0] : Fin 3 → ℕ) a + S1x1x128.size a ≤ S2x1x128.size a) (y : S128.Idx) :
    (listI ![n % 2, 0, 0] h).view.read (Elt F) (idxSlot I b) y = I (colAt (b + (y 0).val)) := by
  show I _ = I _
  rw [listI_emb]

theorem list_in_range (hI : ∀ x, (I x).toNat < 100000)
    (h : ∀ a, (![n % 2, 0, 0] : Fin 3 → ℕ) a + S1x1x128.size a ≤ S2x1x128.size a) (x : S128.Idx) :
    ((listI ![n % 2, 0, 0] h).view.read (Elt F) (idxSlot I b) x).toNat < S100000x128.size gathers_S100000x128_S128x128.axis := by
  rw [listI_read]; exact hI _

/-- The row the list names for row `k` of the slot. -/
theorem rows_val {g : S128.Idx → Elt F .i32} (hn : S128.numel = S128x128.size gathers_S100000x128_S128x128.axis')
    (hin : ∀ x, (g x).toNat < S100000x128.size gathers_S100000x128_S128x128.axis)
    (k : Fin (S128x128.size gathers_S100000x128_S128x128.axis')) (w : ℕ → Elt F .i32) (hw : ∀ y : S128.Idx, g y = w (y 0).val) :
    (SparseCore.rows g hn hin k).val = (w k.val).toNat := by
  unfold SparseCore.rows
  show (g (S128.rowMajor.symm (Fin.cast hn.symm k))).toNat = _
  rw [hw]
  have e1 := Shape.rowMajor_val_one (S128.rowMajor.symm (Fin.cast hn.symm k))
  have e2 := congrArg Fin.val (Equiv.apply_symm_apply S128.rowMajor (Fin.cast hn.symm k))
  have e3 : ((S128.rowMajor.symm (Fin.cast hn.symm k)) 0).val = k.val := e1.symm.trans e2
  rw [e3]

/-- Where a gather of rows reads for its element `y`. -/
theorem gather_place (r : Fin (S128x128.size gathers_S100000x128_S128x128.axis') → Fin (S100000x128.size gathers_S100000x128_S128x128.axis))
    (y : S128x128.Idx) : gathers_S100000x128_S128x128.idx r y = tblAt (r (y 0)).val (y 1).val := by
  have e0 : (gathers_S100000x128_S128x128.idx r y 0).val = (r (y 0)).val :=
    congrArg Fin.val (Shape.Gathers.idx_axis gathers_S100000x128_S128x128 r y)
  have e1 : (gathers_S100000x128_S128x128.idx r y 1).val = (y 1).val :=
    Shape.Gathers.idx_of_ne gathers_S100000x128_S128x128 r y 1 (by decide)
  rw [← tblAt_eq (gathers_S100000x128_S128x128.idx r y), e0, e1]

theorem gathered (h : ∀ a, (![n % 2, 0, 0] : Fin 3 → ℕ) a + S1x1x128.size a ≤ S2x1x128.size a)
    (h' : ∀ a, (![n % 2, 0, 0] : Fin 3 → ℕ) a + S1x128x128.size a ≤ S2x128x128.size a)
    (hn : S128.numel = S128x128.size gathers_S100000x128_S128x128.axis')
    (hin : ∀ x, ((listI ![n % 2, 0, 0] h).view.read (Elt F) (idxSlot I b) x).toNat < S100000x128.size gathers_S100000x128_S128x128.axis)
    (f : S2x128x128.Idx → Elt F .f32) (x : S2x128x128.Idx) (hx : x ∈ inSlotO n) :
    (slotO ![n % 2, 0, 0] h').view.write (Elt F) f
        (SparseCore.gatherPayload gathers_S100000x128_S128x128 (tableV.view.read (Elt F) T)
          (SparseCore.rows ((listI ![n % 2, 0, 0] h).view.read (Elt F) (idxSlot I b)) hn hin)) Finset.univ x
      = rowSlot I T b x := by
  rw [← slotO_set h'] at hx
  obtain ⟨y, -, rfl⟩ := Finset.mem_map.mp hx
  have hr := rows_val (F := F) hn hin (y 0) (fun j => I (colAt (b + j))) (listI_read I h)
  generalize SparseCore.rows ((listI ![n % 2, 0, 0] h).view.read (Elt F) (idxSlot I b)) hn hin = r at hr
  rw [View.write_emb_of_mem _ _ (Finset.mem_univ y)]
  show T (tableV.view.emb (gathers_S100000x128_S128x128.idx r y)) = T _
  rw [tableV_emb, gather_place, hr, (slotO_emb h' y).2.1, (slotO_emb h' y).2.2]

theorem written (h : ∀ a, (![n % 2, 0, 0] : Fin 3 → ℕ) a + S1x128x128.size a ≤ S2x128x128.size a)
    (h' : ∀ a, (![b, 0] : Fin 2 → ℕ) a + S128x128.size a ≤ S819200x128.size a) (f : S819200x128.Idx → Elt F .f32)
    (x : S819200x128.Idx) (hx : x ∈ rows b (b + 128)) :
    (blockO ![b, 0] h').view.write (Elt F) f ((slotO ![n % 2, 0, 0] h).view.read (Elt F) (rowSlot I T b)) Finset.univ x
      = looked I T x := by
  rw [← blockO_set h'] at hx
  obtain ⟨y, -, rfl⟩ := Finset.mem_map.mp hx
  rw [View.write_emb_of_mem _ _ (Finset.mem_univ y)]
  show T (tblAt (I (colAt (b + ((slotO ![n % 2, 0, 0] h).view.emb y 1).val))).toNat ((slotO ![n % 2, 0, 0] h).view.emb y 2).val) = T _
  rw [(slotO_emb h y).2.1, (slotO_emb h y).2.2, (blockO_emb h' y).1, (blockO_emb h' y).2]

end Cert.Proof.Lookup

end
-- ==== Proof.Tile.lean ====
/- What a tile holds of its buffers and of the arrays while it works, and each of its transfers and waits as a step. -/
module

public import proofs.«01_k».proof.Defs
public import proofs.«01_k».proof.Proof.Values
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic

@[expose] public section

noncomputable section

namespace Cert.Proof.Lookup

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The handshakes' rounds beside the transfers' counters. -/
abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays and the tile's own buffers -/

abbrev iLoc (d : Dev nD) : Loc nD τ sig := (SparseCore.T d).loc main_v0
abbrev tLoc (d : Dev nD) : Loc nD τ sig := (SparseCore.T d).loc main_arg1
abbrev oLoc (d : Dev nD) : Loc nD τ sig := (SparseCore.T d).loc main_v1

abbrev cV (L : grid0.Coords) : Fin τ.nSC := (L 0).castLE hcore0
abbrev jV (L : grid0.Coords) : Fin τ.nSub := (L 1).castLE hsub0

section Steps

variable (d : Dev nD) (L : grid0.Coords)

/-- The tile. -/
abbrev thr : Thread nD τ := V d (cV L) (jV L)
abbrev bI : Loc nD τ sig := (thr d L).loc cc0_scoped0
abbrev bO : Loc nD τ sig := (thr d L).loc cc0_scoped2

theorem sem_inb (n : ℕ) : ∀ a, (![n % 2] : Fin 1 → ℕ) a + S1.size a ≤ S2.size a := fun a => by
  match a with
  | 0 => show n % 2 + 1 ≤ 2; omega
theorem slotI_inb (n : ℕ) : ∀ a, (![n % 2, 0, 0] : Fin 3 → ℕ) a + S1x1x128.size a ≤ S2x1x128.size a := fun a => by
  match a with
  | 0 => show n % 2 + 1 ≤ 2; omega
  | 1 => exact le_refl 1
  | 2 => exact le_refl 128

theorem slotO_inb (n : ℕ) : ∀ a, (![n % 2, 0, 0] : Fin 3 → ℕ) a + S1x128x128.size a ≤ S2x128x128.size a := fun a => by
  match a with
  | 0 => show n % 2 + 1 ≤ 2; omega
  | 1 => exact le_refl 128
  | 2 => exact le_refl 128

/-- The semaphores of the two pairs of slots and of the gather. -/
abbrev semI (n : ℕ) : DmaSem sig := semAt cc0_scoped1 ![n % 2] (sem_inb n)
abbrev semO (n : ℕ) : DmaSem sig := semAt cc0_scoped3 ![n % 2] (sem_inb n)
abbrev semG : DmaSem sig := cc0_scoped4.sem

/-- What each transfer credits its semaphore. -/
abbrev creditI : ℕ := (slotI ![0 % 2, 0, 0] (slotI_inb 0)).view.dmaCredit
abbrev creditW : ℕ := (blockO ![0, 0] (by decide)).view.dmaCredit

variable (I : S1x819200.Idx → Elt F .i32) (T : S100000x128.Idx → Elt F .f32)

/-- Slot `n` of a buffer at rest, its semaphore at zero. -/
def idleI (n : ℕ) : sProp 𝕄 := iprop((∃ f, bI d L ↦[inSlotI n]{fullShare} f) ∗ semVal (thr d L, .dma (semI n)) 0)
def idleO (n : ℕ) : sProp 𝕄 := iprop((∃ f, bO d L ↦[inSlotO n]{fullShare} f) ∗ semVal (thr d L, .dma (semO n)) 0)
/-- Slot `n` of the index buffer holding the indices from `b` on; of the row buffer, their rows. -/
def fullI (b n : ℕ) : sProp 𝕄 := iprop((bI d L ↦[inSlotI n]{fullShare} idxSlot I b) ∗ semVal (thr d L, .dma (semI n)) 0)
def fullO (b n : ℕ) : sProp 𝕄 := iprop((bO d L ↦[inSlotO n]{fullShare} rowSlot I T b) ∗ semVal (thr d L, .dma (semO n)) 0)
/-- A piece of the indices, and a piece of the output at given contents. -/
def idxPart (a b : ℕ) : sProp 𝕄 := iprop(iLoc d ↦[cols a b]{fullShare} I)
def outPart (f : S819200x128.Idx → Elt F .f32) (a b : ℕ) : sProp 𝕄 := iprop(oLoc d ↦[rows a b]{fullShare} f)
/-- The indices from `b` on coming into slot `n`; their rows going out of it. -/
def fetching (b n : ℕ) : sProp 𝕄 := Transfers.Flight countersEmb (thr d L) (.dma (semI n)) (default : HIx 1) creditI
  iprop((bI d L ↦[inSlotI n]{fullShare} idxSlot I b) ∗ idxPart d I b (b + 128))
def writing (b n : ℕ) : sProp 𝕄 := Transfers.Flight countersEmb (thr d L) (.dma (semO n)) (default : HIx 1) creditW
  iprop(outPart d (looked I T) b (b + 128) ∗ bO d L ↦[inSlotO n]{fullShare} rowSlot I T b)

/-! ## The slots come round -/

theorem semAt_congr (s : DmaSems sig S2) {q q' : Fin 1 → ℕ} (e : q = q') (h : ∀ a, q a + S1.size a ≤ S2.size a)
    (h' : ∀ a, q' a + S1.size a ≤ S2.size a) : semAt s q h = semAt s q' h' := by subst e; rfl
theorem semI_add_two (n : ℕ) : semI (n + 2) = semI n := semAt_congr _ (by simp) _ _
theorem semO_add_two (n : ℕ) : semO (n + 2) = semO n := semAt_congr _ (by simp) _ _
theorem idleI_add_two (n : ℕ) : (idleI d L (n + 2) : sProp 𝕄) = idleI d L n := by
  unfold idleI; rw [semI_add_two, inSlotI_add_two]
theorem idleO_add_two (n : ℕ) : (idleO d L (n + 2) : sProp 𝕄) = idleO d L n := by
  unfold idleO; rw [semO_add_two, inSlotO_add_two]
theorem fullI_idle (b n : ℕ) : (fullI d L I b n : sProp 𝕄) ⊢ idleI d L n := by
  unfold fullI idleI
  iintro ⟨H, Hv⟩
  isplitl [H]
  · iexists _; iexact H
  · iexact Hv
theorem fullO_idle (b n : ℕ) : (fullO d L I T b n : sProp 𝕄) ⊢ idleO d L n := by
  unfold fullO idleO
  iintro ⟨H, Hv⟩
  isplitl [H]
  · iexists _; iexact H
  · iexact Hv

/-! ## Pieces split and join -/

theorem idxPart_append {a b c : ℕ} (h : a ≤ b) (h' : b ≤ c) :
    (idxPart d I a c : sProp 𝕄) = iprop(idxPart d I a b ∗ idxPart d I b c) := by
  unfold idxPart
  rw [← cols_union h h']
  exact Entails.antisymm (pointsTo_union (cols_disjoint a b c)).1 (pointsTo_union (cols_disjoint a b c)).2
theorem outPart_append (f : S819200x128.Idx → Elt F .f32) {a b c : ℕ} (h : a ≤ b) (h' : b ≤ c) :
    (outPart d f a c : sProp 𝕄) = iprop(outPart d f a b ∗ outPart d f b c) := by
  unfold outPart
  rw [← rows_union h h']
  exact Entails.antisymm (pointsTo_union (rows_disjoint a b c)).1 (pointsTo_union (rows_disjoint a b c)).2
theorem idxPart_self (a : ℕ) : (idxPart d I a a : sProp 𝕄) = iprop(emp) := by
  unfold idxPart; rw [cols_self]; exact pointsTo_empty
theorem outPart_self (f : S819200x128.Idx → Elt F .f32) (a : ℕ) : (outPart d f a a : sProp 𝕄) = iprop(emp) := by
  unfold outPart; rw [rows_self]; exact pointsTo_empty

/-! ## The transfers and the waits -/

variable [FloatOps F]

local notation "wpT" => wp frame (wpE (defs₀ (F := F)) 𝒱₀ (thr d L) none) Set.univ

/-- The fetch of a block of indices into an idle slot. -/
theorem fetch_step {b n : ℕ} {o : Fin 3 → ℕ} {p : Fin 2 → ℕ} {q : Fin 1 → ℕ} (ho : o = ![n % 2, 0, 0]) (hp : p = ![0, b]) (hq : q = ![n % 2])
    {io : ∀ a, o a + S1x1x128.size a ≤ S2x1x128.size a} {ip : ∀ a, p a + S1x128.size a ≤ S1x819200.size a}
    {iq : ∀ a, q a + S1.size a ≤ S2.size a} {hsrc : (blockI p ip).view.WordExact} {hdst : (slotI o io).view.WordExact}
    {hsem : DmaTarget.Typed (nD := nD) (τ := τ) (p := (thr d L).2) Space.hbm (SemLoc.dma (semAt cc0_scoped1 q iq)) (.here (slotI o io))} {Q : PUnit → sProp 𝕄} :
    iprop(idxPart d I b (b + 128) ∗ idleI d L n)
      ⊢ iprop((fetching d L I b n -∗ Q ⟨⟩)
          -∗ wpT (Prog.lift (.enqueueDma (blockI p ip) (.here (slotI o io)) (.dma (semAt cc0_scoped1 q iq)) hsrc hdst hsem)) Q) := by
  subst ho hp hq
  unfold idxPart idleI
  iintro ⟨Hi, ⟨%f, Hs⟩, Hv⟩ Hk
  iapply (Transfers.wp_dmaLocal countersEmb 𝒱₀ (thr d L) none (src := blockI ![0, b] ip) (dst := slotI ![n % 2, 0, 0] io) (via := .same) (fs := I) (fd := f) (q := fullShare)
    (default : HIx 1) creditI rfl (View.dmaCredit_pos _ (by decide)) (Sd := inSlotI n) (slotI_set io).le) $$ [Hi Hs Hv]
  · isplitl [Hi]
    · rw [blockI_set ip]; iexact Hi
    isplitl [Hs]; · iexact Hs
    iexact Hv
  iintro Hfl
  rw [wp_ret]
  imodintro
  iapply Hk
  unfold fetching idxPart
  iapply (Transfers.Flight_mono countersEmb (thr d L) ?_) $$ Hfl
  rw [blockI_set ip]
  exact BI.sep_mono (Entails.of_eq (pointsTo_congr (fetched I io ip f))) (BI.Entails.refl _)

/-- The wait for it: the slot holds the block. -/
theorem fetched_step {b n : ℕ} {o : Fin 3 → ℕ} {p : Fin 2 → ℕ} {q : Fin 1 → ℕ} (hq : q = ![n % 2])
    {io : ∀ a, o a + S1x1x128.size a ≤ S2x1x128.size a} {ip : ∀ a, p a + S1x128.size a ≤ S1x819200.size a}
    {iq : ∀ a, q a + S1.size a ≤ S2.size a} {hsrc : (blockI p ip).view.WordExact} {hdst : (slotI o io).view.WordExact}
    {O : CellTallies nD τ sig (HIx 1)} {W : Waits sig (HIx 1)} {Q : PUnit → sProp 𝕄} :
    iprop(fetching d L I b n ∗ owes (thr d L) O W ∗ Transfers.MayWaits (thr d L) (default : HIx 1) O)
      ⊢ iprop((iprop(fullI d L I b n ∗ idxPart d I b (b + 128) ∗ owes (thr d L) O (insert (SemLoc.dma (semI n), (default : HIx 1)) W)) -∗ Q ⟨⟩)
          -∗ wpT (Prog.lift (.waitDma2 (semAt cc0_scoped1 q iq) (blockI p ip) (slotI o io) hsrc hdst)) Q) := by
  subst hq
  unfold fetching
  iintro ⟨Hf, HO, Hmw⟩ Hk
  iapply (Transfers.wp_waitLocalO countersEmb 𝒱₀ (thr d L) none (default : HIx 1) (rfl : (slotI o io).view.dmaCredit = creditI)) $$ [Hf HO Hmw]
  · isplitl [Hf]; · iexact Hf
    isplitl [HO]; · iexact HO
    iapply (Transfers.MayWaits.elim (SemLoc.dma (semI n))) $$ Hmw
  iintro ⟨⟨Hs, Hi⟩, Hv, HO⟩
  rw [wp_ret]
  imodintro
  iapply Hk
  unfold fullI
  isplitl [Hs Hv]
  · isplitl [Hs] <;> iassumption
  isplitl [Hi] <;> iassumption

theorem gatherCredit {o : Fin 3 → ℕ} (io : ∀ a, o a + S1x128x128.size a ≤ S2x128x128.size a) (a' : Fin S128x128.rank) :
    ∑ j, ((slotO o io).slice (S128x128.rowRect a' j) (S128x128.stride_rowRect a' j)).view.dmaCredit = (slotO o io).view.dmaCredit :=
  SparseCore.sum_rowCredit_eq_dmaCredit (slotO o io) a' fun _ => rfl

set_option maxHeartbeats 1000000 in
/-- The gather of the rows that a slot's indices name, and its wait. -/
theorem gather_step {b n : ℕ} {oi oo : Fin 3 → ℕ} (hoi : oi = ![n % 2, 0, 0]) (hoo : oo = ![n % 2, 0, 0])
    (hI : ∀ x, (I x).toNat < 100000)
    {ii : ∀ a, oi a + S1x1x128.size a ≤ S2x1x128.size a} {io : ∀ a, oo a + S1x128x128.size a ≤ S2x128x128.size a}
    {hn : S128.numel = S128x128.size gathers_S100000x128_S128x128.axis'}
    {hp : (thr d L).2.kind = .scVector} {hsrc : tableV.view.WordExact} {he : EltTy.f32.bits = 32} {hsp : Space.hbm = .hbm ∨ Space.hbm = .shared}
    {hr : S100000x128.StreamRows 0} {hsrc' : tableV.view.WordExact} {hdst' : (slotO oo io).view.WordExact}
    {q : PosShare TreeShare} {O : CellTallies nD τ sig (HIx 1)} {W : Waits sig (HIx 1)} {Q : PUnit → sProp 𝕄} :
    iprop(fullI d L I b n ∗ idleO d L n ∗ (tLoc d ↦{q} T) ∗ semVal (thr d L, .dma semG) 0
        ∗ owes (thr d L) O W ∗ Transfers.MayWaits (thr d L) (default : HIx 1) O)
      ⊢ iprop((iprop(idleI d L n ∗ fullO d L I T b n ∗ (tLoc d ↦{q} T) ∗ semVal (thr d L, .dma semG) 0
            ∗ owes (thr d L) O (insert (SemLoc.dma semG, (default : HIx 1)) W)) -∗ Q ⟨⟩)
          -∗ wpT (SparseCore.enqueueIndirectGather hp tableV (slotO oo io) gathers_S100000x128_S128x128 (listI oi ii) hn semG hsrc he hsp hr)
              fun _ => wpT (SparseCore.waitIndirectGather semG tableV (slotO oo io) hsrc' hdst') Q) := by
  subst hoi hoo
  unfold fullI idleO
  iintro ⟨⟨Hs, HvI⟩, ⟨⟨%f, Ho⟩, HvO⟩, Ht, Hv, HO, Hmw⟩ Hk
  have hin := list_in_range (n := n) (b := b) I hI ii
  rw [← wp_bind]
  iapply (SparseCore.wp_indirectGatherLocal countersEmb 𝒱₀ (thr d L) none (hg := gathers_S100000x128_S128x128) (src := tableV)
      (dst := slotO ![n % 2, 0, 0] io) (offs := listI ![n % 2, 0, 0] ii) (fs := T) (fd := f) (fo := idxSlot I b) (q := q) (qo := fullShare) (default : HIx 1)
      (slotO ![n % 2, 0, 0] io).view.dmaCredit (gatherCredit io _) (by decide) hin) $$ [Hs Ho Ht Hv]
  · rw [tableV_set, slotO_set io, listI_set ii]
    isplitl [Ht]; · iexact Ht
    isplitl [Ho]; · iexact Ho
    isplitl [Hs]; · iexact Hs
    iexact Hv
  iintro Hfl
  unfold SparseCore.waitIndirectGather
  iapply (Transfers.wp_waitLocalO countersEmb 𝒱₀ (thr d L) none (default : HIx 1) (rfl : (slotO ![n % 2, 0, 0] io).view.dmaCredit = _)) $$ [Hfl HO Hmw]
  · isplitl [Hfl]; · iexact Hfl
    isplitl [HO]; · iexact HO
    iapply (Transfers.MayWaits.elim (SemLoc.dma semG)) $$ Hmw
  rw [tableV_set, slotO_set io, listI_set ii]
  iintro ⟨⟨Ho, Ht, Hs⟩, Hv, HO⟩
  rw [wp_ret]
  imodintro
  iapply Hk
  isplitl [Hs HvI]
  · iapply (fullI_idle d L I b n)
    unfold fullI
    isplitl [Hs] <;> iassumption
  isplitl [Ho HvO]
  · unfold fullO
    isplitl [Ho]
    · iapply (Entails.of_eq (pointsTo_congr (gathered I T ii io hn hin f))) $$ Ho
    · iexact HvO
  isplitl [Ht]; · iexact Ht
  isplitl [Hv]; · iexact Hv
  iexact HO

/-- The write-out of a slot of rows to its block of the output. -/
theorem write_step {b n : ℕ} {o : Fin 3 → ℕ} {p : Fin 2 → ℕ} {q : Fin 1 → ℕ} (ho : o = ![n % 2, 0, 0]) (hp : p = ![b, 0]) (hq : q = ![n % 2])
    {f : S819200x128.Idx → Elt F .f32}
    {io : ∀ a, o a + S1x128x128.size a ≤ S2x128x128.size a} {ip : ∀ a, p a + S128x128.size a ≤ S819200x128.size a}
    {iq : ∀ a, q a + S1.size a ≤ S2.size a} {hsrc : (slotO o io).view.WordExact} {hdst : (blockO p ip).view.WordExact}
    {hsem : DmaTarget.Typed (nD := nD) (τ := τ) (p := (thr d L).2) Space.vmem (SemLoc.dma (semAt cc0_scoped3 q iq)) (.here (blockO p ip))} {Q : PUnit → sProp 𝕄} :
    iprop(fullO d L I T b n ∗ outPart d f b (b + 128))
      ⊢ iprop((writing d L I T b n -∗ Q ⟨⟩)
          -∗ wpT (Prog.lift (.enqueueDma (slotO o io) (.here (blockO p ip)) (.dma (semAt cc0_scoped3 q iq)) hsrc hdst hsem)) Q) := by
  subst ho hp hq
  unfold outPart fullO
  iintro ⟨⟨Hs, Hv⟩, Ho⟩ Hk
  iapply (Transfers.wp_dmaLocal countersEmb 𝒱₀ (thr d L) none (src := slotO ![n % 2, 0, 0] io) (dst := blockO ![b, 0] ip) (via := .same)
    (fs := rowSlot I T b) (fd := f) (q := fullShare)
    (default : HIx 1) creditW rfl (View.dmaCredit_pos _ (by decide)) (Sd := rows b (b + 128)) (blockO_set ip).le) $$ [Hs Ho Hv]
  · isplitl [Hs]
    · rw [slotO_set io]; iexact Hs
    isplitl [Ho]; · iexact Ho
    iexact Hv
  iintro Hfl
  rw [wp_ret]
  imodintro
  iapply Hk
  unfold writing outPart
  iapply (Transfers.Flight_mono countersEmb (thr d L) ?_) $$ Hfl
  rw [slotO_set io]
  exact BI.sep_mono (Entails.of_eq (pointsTo_congr (written I T io ip f))) (BI.Entails.refl _)

/-- The wait for it: the block holds its rows of the lookup, the slot is idle. -/
theorem written_step {b n : ℕ} {o : Fin 3 → ℕ} {p : Fin 2 → ℕ} {q : Fin 1 → ℕ} (hq : q = ![n % 2])
    {io : ∀ a, o a + S1x128x128.size a ≤ S2x128x128.size a} {ip : ∀ a, p a + S128x128.size a ≤ S819200x128.size a}
    {iq : ∀ a, q a + S1.size a ≤ S2.size a} {hsrc : (slotO o io).view.WordExact} {hdst : (blockO p ip).view.WordExact}
    {O : CellTallies nD τ sig (HIx 1)} {W : Waits sig (HIx 1)} {Q : PUnit → sProp 𝕄} :
    iprop(writing d L I T b n ∗ owes (thr d L) O W ∗ Transfers.MayWaits (thr d L) (default : HIx 1) O)
      ⊢ iprop((iprop(idleO d L n ∗ outPart d (looked I T) b (b + 128) ∗ owes (thr d L) O (insert (SemLoc.dma (semO n), (default : HIx 1)) W)) -∗ Q ⟨⟩)
          -∗ wpT (Prog.lift (.waitDma2 (semAt cc0_scoped3 q iq) (slotO o io) (blockO p ip) hsrc hdst)) Q) := by
  subst hq
  unfold writing
  iintro ⟨Hf, HO, Hmw⟩ Hk
  iapply (Transfers.wp_waitLocalO countersEmb 𝒱₀ (thr d L) none (default : HIx 1) (rfl : (blockO p ip).view.dmaCredit = creditW)) $$ [Hf HO Hmw]
  · isplitl [Hf]; · iexact Hf
    isplitl [HO]; · iexact HO
    iapply (Transfers.MayWaits.elim (SemLoc.dma (semO n))) $$ Hmw
  iintro ⟨⟨Ho, Hs⟩, Hv, HO⟩
  rw [wp_ret]
  imodintro
  iapply Hk
  isplitl [Hs Hv]
  · iapply (fullO_idle d L I T b n)
    unfold fullO
    isplitl [Hs] <;> iassumption
  isplitl [Ho] <;> iassumption

end Steps

end Cert.Proof.Lookup

end
-- ==== Proof.Body.lean ====
/- One tile's run of the kernel: what holds before each trip of its pipeline, a trip, the loop, and the whole body. -/
module

public import proofs.«01_k».proof.Proof.Words
public import proofs.«01_k».proof.Proof.Tile

@[expose] public section

noncomputable section

namespace Cert.Proof.Lookup

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "iV" => (Memref.whole main_v0_scv : Memref sig Kind.scVector Space.hbm S1x819200 EltTy.i32)
local notation "tV" => (Memref.whole main_arg1_scv : Memref sig Kind.scVector Space.hbm S100000x128 EltTy.f32)
local notation "oV" => (Memref.whole main_v1_scv : Memref sig Kind.scVector Space.hbm S819200x128 EltTy.f32)
local notation "sI" => (Memref.whole cc0_scoped0 : Memref sig Kind.scVector Space.vmem S2x1x128 EltTy.i32)
local notation "sO" => (Memref.whole cc0_scoped2 : Memref sig Kind.scVector Space.vmem S2x128x128 EltTy.f32)

section Tile

variable (d : Dev nD) (L : grid0.Coords)
variable (I : S1x819200.Idx → Elt F .i32) (T : S100000x128.Idx → Elt F .f32) (O₀ : S819200x128.Idx → Elt F .f32)

/-- Where block `n` of the tile begins. -/
abbrev at' (n : ℕ) : ℕ := first L + 128 * n
/-- Where the tile's blocks end. -/
abbrev last : ℕ := first L + 25600

theorem idxPart_none {a b : ℕ} (h : b ≤ a) : (idxPart d I a b : sProp 𝕄) = iprop(emp) := by
  unfold idxPart
  rw [show cols a b = ∅ from Finset.eq_empty_of_forall_notMem fun x hx => by have := mem_cols.mp hx; omega]
  exact pointsTo_empty
theorem outPart_none {a b : ℕ} (f : S819200x128.Idx → Elt F .f32) (h : b ≤ a) : (outPart d f a b : sProp 𝕄) = iprop(emp) := by
  unfold outPart
  rw [show rows a b = ∅ from Finset.eq_empty_of_forall_notMem fun x hx => by have := mem_rows.mp hx; omega]
  exact pointsTo_empty

/-! ## What holds before trip `t` -/

/-- The indices of block `t` are on their way in, unless all have come. -/
def coming (t : ℕ) : sProp 𝕄 := if t < 200 then fetching d L I (at' L t) t else idleI d L t
/-- The rows of the block before `t` are on their way out, if there is one. -/
def leaving (t : ℕ) : sProp 𝕄 := if t = 0 then idleO d L 1 else writing d L I T (at' L (t - 1)) (t - 1)

theorem coming_lt {t : ℕ} (h : t < 200) : (coming d L I t : sProp 𝕄) = fetching d L I (at' L t) t := if_pos h
theorem coming_end : (coming d L I 200 : sProp 𝕄) = idleI d L 200 := if_neg (by omega)
theorem leaving_zero : (leaving d L I T 0 : sProp 𝕄) = idleO d L 1 := if_pos rfl
theorem leaving_pos {t : ℕ} (h : 0 < t) : (leaving d L I T t : sProp 𝕄) = writing d L I T (at' L (t - 1)) (t - 1) := if_neg (by omega)
theorem leaving_succ (t : ℕ) : (leaving d L I T (t + 1) : sProp 𝕄) = writing d L I T (at' L t) t := if_neg (by omega)

variable (q : PosShare TreeShare) (O : CellTallies nD τ sig (HIx 1)) (W : Waits sig (HIx 1))

/-- What the thread owes, its waits so far being of its own transfers. -/
def owing : sProp 𝕄 := iprop(∃ W', ⌜∀ p ∈ W', p ∈ W ∨ p.2 = none⌝ ∗ owes (thr d L) O W')

theorem own_wait {W W' : Waits sig (HIx 1)} (hW : ∀ p ∈ W', p ∈ W ∨ p.2 = none) (s : SemLoc sig) :
    ∀ p ∈ insert (s, (default : HIx 1)) W', p ∈ W ∨ p.2 = none := by
  intro p hp
  rcases Finset.mem_insert.mp hp with hp | hp
  · exact .inr (hp ▸ rfl)
  · exact hW p hp

theorem owing_of {W' : Waits sig (HIx 1)} (hW : ∀ p ∈ W', p ∈ W ∨ p.2 = none) :
    (owes (thr d L) O W' : sProp 𝕄) ⊢ owing d L O W := by
  unfold owing
  iintro H
  iexists _
  isplitr
  swap; · iexact H
  ipureintro; exact hW

/-- What the tile holds before trip `t`. -/
def inv (t : ℕ) (acc : BitVec 32 × BitVec 32 × BitVec 32 × BitVec 32 × BitVec 32) : sProp 𝕄 :=
  iprop(⌜acc = counters t⌝ ∗ Transfers.MayWaits (thr d L) (default : HIx 1) O
    ∗ coming d L I t ∗ idleI d L (t + 1) ∗ idxPart d I (at' L 0) (at' L t) ∗ idxPart d I (at' L (t + 1)) (last L)
    ∗ (tLoc d ↦{q} T) ∗ semVal (thr d L, .dma semG) 0
    ∗ idleO d L t ∗ leaving d L I T t ∗ outPart d (looked I T) (at' L 0) (at' L (t - 1)) ∗ outPart d O₀ (at' L t) (last L)
    ∗ owing d L O W)

/-! ## A trip -/

variable [FloatOps F]

local notation "wpT" => wp frame (wpE (defs₀ (F := F)) 𝒱₀ (thr d L) none) Set.univ

/-- A step taken only under a condition, then the rest. -/
theorem wp_branch {α : Type} {c : Prop} [Decidable c] {e : c → Prog (TpuEff nD τ sig (Elt F) Λ₀ (thr d L).2) PUnit}
    {k : Prog (TpuEff nD τ sig (Elt F) Λ₀ (thr d L).2) α} {X R : sProp 𝕄}
    (ha : ∀ h (Q : PUnit → sProp 𝕄), X ⊢ iprop((R -∗ Q ⟨⟩) -∗ wpT (e h) Q)) (hb : ¬c → X ⊢ R) {Q : α → sProp 𝕄} :
    X ⊢ iprop((R -∗ wpT k Q) -∗ wpT (dite c (fun h => e h >>= fun _ => k) fun _ => k) Q) := by
  by_cases h : c
  · rw [dif_pos h, wp_bind]; exact ha h fun _ => wpT k Q
  · rw [dif_neg h]
    iintro HX HQ
    iapply HQ
    iapply (hb h) $$ HX

/-- The words a trip computes from those it found: whether it is the first, whether it is the last, the blocks at hand, before and
    after, and the count of slots filled. -/
abbrev firstTrip (t : Fin k0_t1_loop.trips) : BitVec 1 := Scalar.cmpi .eq (Scf.iv 0#32 1#32 t) 0#32
abbrev lastTrip (t : Fin k0_t1_loop.trips) : BitVec 1 := Scalar.cmpi .eq (Scf.iv 0#32 1#32 t) 199#32
abbrev hereWord (v4 a : BitVec 32) : BitVec 32 := Scalar.addi a v4
abbrev filledWord (v4 : BitVec 32) (t : Fin k0_t1_loop.trips) (a6 a10 : BitVec 32) : BitVec 32 :=
  Scalar.select (Scalar.andi (Scalar.andi (Scalar.cmpi .ne (hereWord v4 a10) (nextWord v4 a10))
    (Scalar.xori (Scalar.cmpi .sge (Scf.iv 0#32 1#32 t) 199#32) 1#1)) 1#1) (Scalar.addi a6 1#32) a6

theorem part1_run (v4 : BitVec 32) (t : Fin k0_t1_loop.trips)
    {Q : (Σ' (_ : k0_chk3 (used t)) (_ : k0_chk2 (used t)) (_ : k0_chk1 L t (filled t) (used t) (used t) (drained t) (atBlock t)) (_ : BitVec 32)
      (_ : BitVec 1) (_ : BitVec 1) (_ : BitVec 32) (_ : BitVec 32) (_ : BitVec 32) (_ : BitVec 32), BitVec 1) → sProp 𝕄} :
    iprop(idleI d L (t + 1) ∗ idxPart d I (at' L (t + 1)) (last L))
      ⊢ iprop((iprop(coming d L I (t + 1) ∗ idxPart d I (at' L (t + 2)) (last L))
          -∗ Q ⟨chk3 t, chk2 t, chk1 L t, Scf.iv 0#32 1#32 t, firstTrip t, lastTrip t, hereWord v4 (atBlock t), prevWord v4 (atBlock t),
            nextWord v4 (atBlock t), filledWord v4 t (filled t) (atBlock t), Scalar.cmpi .ne (hereWord v4 (atBlock t)) (prevWord v4 (atBlock t))⟩)
        -∗ wpT (k0_part1 L tV (Memref.isWhole_whole _) iV (Memref.isWhole_whole _) oV (Memref.isWhole_whole _)
          sI (Memref.isWhole_whole _) cc0_scoped1 sO (Memref.isWhole_whole _) cc0_scoped3 cc0_scoped4 v4 0#32 1#32 t
          (filled t) (used t) (used t) (drained t) (atBlock t)) Q) := by
  have ht : t.val < 200 := t.isLt
  rw [k0_part1_eq_skeleton]
  unfold k0_part1_skel filledWord hereWord prevWord nextWord
  simp only [wp_bind]
  iintro HX HQ
  iapply (wp_assume 𝒱₀ (thr d L) none Set.univ (chk3 t))
  rw [wp_ret]; imodintro
  iapply (wp_assume 𝒱₀ (thr d L) none Set.univ (chk2 t))
  rw [wp_ret]; imodintro
  iapply (wp_assume 𝒱₀ (thr d L) none Set.univ (chk1 L t))
  rw [wp_ret]; imodintro
  iapply (wp_branch d L (X := iprop(idleI d L (t + 1) ∗ idxPart d I (at' L (t + 1)) (last L)))
    (R := iprop(coming d L I (t + 1) ∗ idxPart d I (at' L (t + 2)) (last L))) ?_ ?_) $$ [HX]
  · intro h Q'
    have h' := (cond1_iff L t).mp h
    rw [idxPart_append d I (b := at' L (t + 1) + 128) (by omega) (by unfold at' last; omega), coming_lt d L I (by omega)]
    iintro ⟨Hi, Hb, Htodo⟩ HQ
    iapply (fetch_step d L I (off4_eq ⟨t, ht⟩) (off5_eq L ⟨t, ht⟩ h') (off6_eq ⟨t, ht⟩)) $$ [Hi Hb]
    · isplitl [Hb] <;> iassumption
    iintro Hf
    iapply HQ
    isplitl [Hf]; · iexact Hf
    iexact Htodo
  · intro h
    have h' : t.val = 199 := by
      have : ¬t.val < 199 := fun e => h ((cond1_iff L t).mpr e)
      omega
    rw [h', coming_end, idxPart_self, idxPart_none d I (a := at' L (199 + 2)) (by unfold at' last; omega)]
  · iexact HX
  iintro HR
  rw [wp_pure]
  imodintro
  iapply HQ $$ HR

theorem part2_run (hI : ∀ x, (I x).toNat < 100000) (t : Fin k0_t1_loop.trips) {W' : Waits sig (HIx 1)} (hW : ∀ p ∈ W', p ∈ W ∨ p.2 = none)
    (h3 : k0_chk3 (used t)) (h2 : k0_chk2 (used t)) (h1 : k0_chk1 L t (filled t) (used t) (used t) (drained t) (atBlock t))
    (a5 : BitVec 32) (v64 v65 : BitVec 1) (v66 v71 v76 : BitVec 32) (v96 : BitVec 1) {Q : PUnit → sProp 𝕄} :
    iprop(Transfers.MayWaits (thr d L) (default : HIx 1) O ∗ fetching d L I (at' L t) t ∗ idleO d L t ∗ (tLoc d ↦{q} T)
        ∗ semVal (thr d L, .dma semG) 0 ∗ owes (thr d L) O W')
      ⊢ iprop((iprop(idleI d L t ∗ idxPart d I (at' L t) (at' L (t + 1)) ∗ fullO d L I T (at' L t) t ∗ (tLoc d ↦{q} T)
            ∗ semVal (thr d L, .dma semG) 0 ∗ owing d L O W) -∗ Q ⟨⟩)
        -∗ wpT (k0_part2 L tV (Memref.isWhole_whole _) iV (Memref.isWhole_whole _) oV (Memref.isWhole_whole _)
          sI (Memref.isWhole_whole _) cc0_scoped1 sO (Memref.isWhole_whole _) cc0_scoped3 cc0_scoped4 t
          (filled t) (used t) (used t) (drained t) (atBlock t) h3 h2 h1 a5 v64 v65 v66 v71 v76 v96) Q) := by
  have ht : t.val < 200 := t.isLt
  rw [k0_part2_eq_skeleton]
  unfold k0_part2_skel
  simp only [dif_pos (cond2_eq L t), ite_self, wp_bind]
  iintro ⟨#Hmw, Hf, Ho, Ht, Hg, HO⟩ HQ
  iapply (fetched_step d L I (off9_eq ⟨t, ht⟩)) $$ [Hf HO]
  · isplitl [Hf]; · iexact Hf
    isplitl [HO]; · iexact HO
    iexact Hmw
  iintro ⟨Hs, Hi, HO⟩
  iapply (gather_step d L I T (off11_eq ⟨t, ht⟩) (off10_eq ⟨t, ht⟩) hI) $$ [Hs Ho Ht Hg HO]
  · isplitl [Hs]; · iexact Hs
    isplitl [Ho]; · iexact Ho
    isplitl [Ht]; · iexact Ht
    isplitl [Hg]; · iexact Hg
    isplitl [HO]; · iexact HO
    iexact Hmw
  iintro ⟨Hs, Ho, Ht, Hg, HO⟩
  rw [wp_pure]
  imodintro
  iapply HQ
  isplitl [Hs]; · iexact Hs
  isplitl [Hi]; · iexact Hi
  isplitl [Ho]; · iexact Ho
  isplitl [Ht]; · iexact Ht
  isplitl [Hg]; · iexact Hg
  iapply (owing_of d L O W (own_wait (own_wait hW _) _)) $$ HO

set_option maxHeartbeats 1000000 in
theorem trip (hI : ∀ x, (I x).toNat < 100000) (t : Fin k0_t1_loop.trips)
    (acc : BitVec 32 × BitVec 32 × BitVec 32 × BitVec 32 × BitVec 32) :
    inv d L I T O₀ q O W t acc
      ⊢ wpT (k0_t1_body L tV (Memref.isWhole_whole _) iV (Memref.isWhole_whole _) oV (Memref.isWhole_whole _)
          sI (Memref.isWhole_whole _) cc0_scoped1 sO (Memref.isWhole_whole _) cc0_scoped3 cc0_scoped4 (blockWord L) t acc)
        (inv d L I T O₀ q O W (t + 1)) := by
  have ht : t.val < 200 := t.isLt
  unfold inv owing
  rw [coming_lt d L I ht]
  iintro ⟨%hacc, #Hmw, Hc, Hi, Hdone, Htodo, Ht, Hg, Ho, Hl, Hout, Hrest, %W', %hW', HO⟩
  subst hacc
  rw [← stepped_counters L t]
  unfold counters k0_t1_body
  simp only [wp_bind]
  iapply (part1_run d L I (blockWord L) t) $$ [Hi Htodo]
  · isplitl [Hi] <;> iassumption
  iintro ⟨Hi, Htodo⟩
  iapply (part2_run d L I T q O W hI t hW' _ _ _) $$ [Hc Ho Ht Hg HO]
  · isplitr; · iexact Hmw
    isplitl [Hc]; · iexact Hc
    isplitl [Ho]; · iexact Ho
    isplitl [Ht]; · iexact Ht
    isplitl [Hg]; · iexact Hg
    iexact HO
  unfold owing
  iintro ⟨Hs, Hb, Ho, Ht, Hg, %W₂, %hW₂, HO⟩
  ihave Hrest := (Entails.of_eq (outPart_append d O₀ (a := at' L t) (b := at' L (t + 1)) (c := last L) (by unfold at'; omega) (by unfold at' last; omega))) $$ Hrest
  icases Hrest with ⟨Hnow, Hrest⟩
  dsimp only
  simp only [dif_pos (cond5_eq L t), ite_self, wp_bind]
  iapply (write_step d L I T (off12_eq ⟨t, ht⟩) (off13_eq L ⟨t, ht⟩) (off14_eq ⟨t, ht⟩)) $$ [Ho Hnow]
  · isplitl [Ho] <;> iassumption
  iintro Hw
  iapply (wp_branch d L (X := iprop(Transfers.MayWaits (thr d L) (default : HIx 1) O ∗ leaving d L I T t ∗ outPart d (looked I T) (at' L 0) (at' L (t - 1)) ∗ owes (thr d L) O W₂))
    (R := iprop(idleO d L (t + 1) ∗ outPart d (looked I T) (at' L 0) (at' L t) ∗ owing d L O W)) ?_ ?_) $$ [Hl Hout HO]
  · intro h Q'
    have h' := (cond7_iff L t).mp h
    iintro ⟨#Hmw, Hl, Hout, HO⟩ HQ
    ihave Hl := (Entails.of_eq (leaving_pos d L I T h')) $$ Hl
    iapply (written_step d L I T (off17_eq ⟨t, ht⟩)) $$ [Hl HO]
    · isplitl [Hl]; · iexact Hl
      isplitl [HO]; · iexact HO
      iexact Hmw
    iintro ⟨Ho, Hw, HO⟩
    iapply HQ
    isplitl [Ho]
    · iapply (Entails.of_eq ((idleO_add_two d L (t - 1)).symm.trans (congrArg (idleO d L) (show t.val - 1 + 2 = t + 1 by omega)))) $$ Ho
    isplitl [Hout Hw]
    · iapply (Entails.of_eq (outPart_append d (looked I T) (a := at' L 0) (b := at' L (t - 1)) (c := at' L t) (by unfold at'; omega) (by unfold at'; omega)).symm)
      isplitl [Hout]; · iexact Hout
      iapply (Entails.of_eq (congrArg (outPart d (looked I T) (at' L (t - 1))) (show at' L (t - 1) + 128 = at' L t by unfold at'; omega))) $$ Hw
    iapply (owing_of d L O W (own_wait hW₂ _)) $$ HO
  · intro h
    have h' : t.val = 0 := by
      have : ¬0 < t.val := fun e => h ((cond7_iff L t).mpr e)
      omega
    rw [h', leaving_zero, outPart_none d (looked I T) (a := at' L 0) (b := at' L (0 - 1)) (by unfold at'; omega)]
    iintro ⟨-, Hl, -, HO⟩
    isplitl [Hl]; · iexact Hl
    isplitr; · iempintro
    iapply (owing_of d L O W hW₂) $$ HO
  · isplitr; · iexact Hmw
    isplitl [Hl]; · iexact Hl
    isplitl [Hout]; · iexact Hout
    iexact HO
  iintro ⟨Ho, Hout, HO⟩
  rw [wp_pure]
  imodintro
  isplitr; · ipureintro; rfl
  isplitr; · iexact Hmw
  isplitl [Hi]; · iexact Hi
  isplitl [Hs]; · iapply (Entails.of_eq (idleI_add_two d L t).symm) $$ Hs
  isplitl [Hdone Hb]
  · iapply (Entails.of_eq (idxPart_append d I (a := at' L 0) (b := at' L t) (c := at' L (t + 1)) (by unfold at'; omega) (by unfold at'; omega)).symm)
    isplitl [Hdone] <;> iassumption
  isplitl [Htodo]; · iexact Htodo
  isplitl [Ht]; · iexact Ht
  isplitl [Hg]; · iexact Hg
  isplitl [Ho]; · iexact Ho
  isplitl [Hw]; · iapply (Entails.of_eq (leaving_succ d L I T t).symm) $$ Hw
  isplitl [Hout]; · iexact Hout
  isplitl [Hrest]; · iexact Hrest
  unfold owing
  iexact HO

/-! ## The loop and the body -/

theorem idleI_congr {n n' : ℕ} (h : n % 2 = n' % 2) : (idleI d L n : sProp 𝕄) = idleI d L n' := by
  unfold idleI inSlotI
  rw [h, show semI n = semI n' from semAt_congr _ (by rw [h]) _ _]
theorem idleO_congr {n n' : ℕ} (h : n % 2 = n' % 2) : (idleO d L n : sProp 𝕄) = idleO d L n' := by
  unfold idleO inSlotO
  rw [h, show semO n = semO n' from semAt_congr _ (by rw [h]) _ _]

/-- The tile's own slots and semaphores, all at rest. -/
def atRest : sProp 𝕄 :=
  iprop(idleI d L 0 ∗ idleI d L 1 ∗ idleO d L 0 ∗ idleO d L 1 ∗ semVal (thr d L, .dma semG) 0)

set_option maxHeartbeats 1000000 in
theorem body_run (hI : ∀ x, (I x).toNat < 100000) :
    iprop(Transfers.MayWaits (thr d L) (default : HIx 1) O ∗ atRest d L ∗ idxPart d I (at' L 0) (last L) ∗ (tLoc d ↦{q} T)
        ∗ outPart d O₀ (at' L 0) (last L) ∗ owing d L O W)
      ⊢ wpT (cc0_run L tV (Memref.isWhole_whole _) iV (Memref.isWhole_whole _) oV (Memref.isWhole_whole _)
          sI (Memref.isWhole_whole _) cc0_scoped1 sO (Memref.isWhole_whole _) cc0_scoped3 cc0_scoped4)
        fun _ => iprop(atRest d L ∗ idxPart d I (at' L 0) (last L) ∗ (tLoc d ↦{q} T)
          ∗ outPart d (looked I T) (at' L 0) (last L) ∗ owing d L O W) := by
  simp only [cc0_run_eq_skeleton]
  unfold cc0_run_skel
  simp only [k0_part3_eq_skeleton, k0_part4_eq_skeleton]
  unfold k0_part3_skel k0_part4_skel atRest
  simp only [wp_bind]
  iintro ⟨#Hmw, ⟨Hi, Hi', Ho, Ho', Hg⟩, Hidx, Ht, Hout, HO⟩
  ihave Hidx := (Entails.of_eq (idxPart_append d I (a := at' L 0) (b := at' L 0 + 128) (c := last L) (by omega) (by unfold at' last; omega))) $$ Hidx
  icases Hidx with ⟨Hb, Hidx⟩
  iapply (fetch_step d L I (b := at' L 0) (n := 0) k0_off1_eq (k0_off2_eq L) k0_off3_eq) $$ [Hb Hi]
  · isplitl [Hb] <;> iassumption
  iintro Hf
  rw [wp_pure]
  imodintro
  iapply (Scf.wp_for (M := 𝕄) (σ := BitVec 32 × BitVec 32 × BitVec 32 × BitVec 32 × BitVec 32) frame (wpE (defs₀ (F := F)) 𝒱₀ (thr d L) none) Set.univ _ _ _ _ _ _ (inv d L I T O₀ q O W) (trip d L I T O₀ q O W hI))
  isplitl [Hi' Ho Ho' Hg Hidx Ht Hout HO Hf]
  · unfold inv
    isplitr; · ipureintro; decide
    isplitr; · iexact Hmw
    isplitl [Hf]; · iapply (Entails.of_eq (coming_lt d L I (t := 0) (by omega)).symm) $$ Hf
    isplitl [Hi']; · iexact Hi'
    isplitr; · iapply (Entails.of_eq (idxPart_self d I (at' L 0)).symm); iempintro
    isplitl [Hidx]; · iexact Hidx
    isplitl [Ht]; · iexact Ht
    isplitl [Hg]; · iexact Hg
    isplitl [Ho]; · iexact Ho
    isplitl [Ho']; · iapply (Entails.of_eq (leaving_zero d L I T).symm) $$ Ho'
    isplitr; · iapply (Entails.of_eq (outPart_self d (looked I T) (at' L 0)).symm); iempintro
    isplitl [Hout]; · iexact Hout
    iexact HO
  iintro %acc HI
  ihave HI := (show inv d L I T O₀ q O W (Scf.trips k0_t1_loop.lb k0_t1_loop.ub k0_t1_loop.st) acc ⊢ inv d L I T O₀ q O W 200 acc from .rfl) $$ HI
  unfold inv owing
  icases HI with ⟨%hacc, -, Hi, Hi', Hidx, -, Ht, Hg, Ho, Hw, Hout, -, %W', %hW', HO⟩
  subst hacc
  unfold counters
  dsimp only
  iapply (wp_assume 𝒱₀ (thr d L) none Set.univ (chk5 L))
  rw [wp_ret]; imodintro
  iapply (wp_assume 𝒱₀ (thr d L) none Set.univ chk4)
  rw [wp_ret]; imodintro
  rw [wp_pure]; imodintro
  ihave Hw := (Entails.of_eq (leaving_pos d L I T (t := 200) (by omega))) $$ Hw
  iapply (written_step d L I T (b := at' L 199) (n := 199) off20_eq) $$ [Hw HO]
  · isplitl [Hw]; · iexact Hw
    isplitl [HO]; · iexact HO
    iexact Hmw
  iintro ⟨Ho', Hlast, HO⟩
  rw [wp_pure]
  imodintro
  isplitl [Hi Hi' Ho Ho' Hg]
  · isplitl [Hi]; · iapply (Entails.of_eq ((coming_end d L I).trans (idleI_congr d L (n := 200) (n' := 0) (by decide)))) $$ Hi
    isplitl [Hi']; · iapply (Entails.of_eq (idleI_congr d L (n := 200 + 1) (n' := 1) (by decide))) $$ Hi'
    isplitl [Ho]; · iapply (Entails.of_eq (idleO_congr d L (n := 200) (n' := 0) (by decide))) $$ Ho
    isplitl [Ho']; · iapply (Entails.of_eq (idleO_congr d L (n := 199) (n' := 1) (by decide))) $$ Ho'
    iexact Hg
  isplitl [Hidx]; · iexact Hidx
  isplitl [Ht]; · iexact Ht
  isplitl [Hout Hlast]
  · iapply (Entails.of_eq (outPart_append d (looked I T) (a := at' L 0) (b := at' L 199) (c := last L) (by unfold at'; omega) (by unfold at' last; omega)).symm)
    isplitl [Hout] <;> iassumption
  ihave HO := (owing_of d L O W (own_wait hW' _)) $$ HO
  unfold owing
  iexact HO

end Tile

end Cert.Proof.Lookup

end
-- ==== Proof.Task.lean ====
/- One tile's task as the launch states it: from the tile's own buffers and semaphores, whole, to the same, its block of
   the output looked up. -/
module

public import proofs.«01_k».proof.Proof.Body

@[expose] public section

noncomputable section

namespace Cert.Proof.Lookup

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ
local notation "iV" => (Memref.whole main_v0_scv : Memref sig Kind.scVector Space.hbm S1x819200 EltTy.i32)
local notation "tV" => (Memref.whole main_arg1_scv : Memref sig Kind.scVector Space.hbm S100000x128 EltTy.f32)
local notation "oV" => (Memref.whole main_v1_scv : Memref sig Kind.scVector Space.hbm S819200x128 EltTy.f32)
local notation "sI" => (Memref.whole cc0_scoped0 : Memref sig Kind.scVector Space.vmem S2x1x128 EltTy.i32)
local notation "sO" => (Memref.whole cc0_scoped2 : Memref sig Kind.scVector Space.vmem S2x128x128 EltTy.f32)

/-- Two parts of a buffer, each at some contents, are their union at some contents. -/
theorem two_parts {ℓ : Loc nD τ sig} {A B : Finset (Idx ℓ)} (h : Disjoint A B) :
    iprop((∃ f, ℓ ↦[A]{fullShare} f) ∗ (∃ f, ℓ ↦[B]{fullShare} f)) ⊢ (iprop(∃ f, ℓ ↦[A ∪ B]{fullShare} f) : sProp 𝕄) := by
  classical
  iintro ⟨⟨%f, Hf⟩, ⟨%g, Hg⟩⟩
  iexists (fun x => if x ∈ A then f x else g x)
  iapply (pointsTo_union h).2
  isplitl [Hf]
  · iapply (Entails.of_eq (pointsTo_congr fun x hx => (if_pos hx).symm)) $$ Hf
  · iapply (Entails.of_eq (pointsTo_congr fun x hx => (if_neg fun hx' => (Finset.disjoint_left.mp h hx') hx).symm)) $$ Hg

section Tile

variable (d : Dev nD) (L : grid0.Coords)

abbrev cell (s : DmaSem sig) : GSem nD τ sig := (thr d L, .dma s)

theorem cell_own (s : DmaSem sig) (h : (SemLoc.dma s : SemLoc sig).isScoped .scVector = true) : cell d L s ∈ ownCells (thr d L) :=
  mem_ownCells.mpr ⟨rfl, h⟩
theorem cell_ne {s s' : DmaSem sig} (h : s ≠ s') : cell d L s ≠ cell d L s' := by
  intro e
  have : (SemLoc.dma s : SemLoc sig) = SemLoc.dma s' := congrArg Prod.snd e
  exact h (by injection this)

theorem cell_erase {s s' : DmaSem sig} (h : s ≠ s') {C : Finset (GSem nD τ sig)} (hs : cell d L s ∈ C) : cell d L s ∈ C.erase (cell d L s') :=
  Finset.mem_erase.mpr ⟨cell_ne d L h, hs⟩

/-- The tile's own semaphores: the five it uses, and the rest. -/
theorem ownSems0_tile :
    (ownSems0 (thr d L) : sProp 𝕄)
      = iprop(semVal (cell d L (semI 0)) 0 ∗ semVal (cell d L (semI 1)) 0 ∗ semVal (cell d L (semO 0)) 0 ∗ semVal (cell d L (semO 1)) 0
          ∗ semVal (cell d L semG) 0
          ∗ bigSep ((((((ownCells (thr d L)).erase (cell d L (semI 0))).erase (cell d L (semI 1))).erase (cell d L (semO 0))).erase
              (cell d L (semO 1))).erase (cell d L semG)) fun g => semVal g 0) := by
  have i0 : (SemLoc.dma (semI 0) : SemLoc sig).isScoped .scVector = true := by decide
  have i1 : (SemLoc.dma (semI 1) : SemLoc sig).isScoped .scVector = true := by decide
  have o0 : (SemLoc.dma (semO 0) : SemLoc sig).isScoped .scVector = true := by decide
  have o1 : (SemLoc.dma (semO 1) : SemLoc sig).isScoped .scVector = true := by decide
  have g0 : (SemLoc.dma semG : SemLoc sig).isScoped .scVector = true := by decide
  unfold SparseCore.Cfg.ownSems0
  rw [SparseCore.bigSep_erase' (cell_own d L _ i0),
    SparseCore.bigSep_erase' (cell_erase d L (s := semI 1) (by decide) (cell_own d L _ i1)),
    SparseCore.bigSep_erase' (cell_erase d L (s := semO 0) (by decide) (cell_erase d L (by decide) (cell_own d L _ o0))),
    SparseCore.bigSep_erase' (cell_erase d L (s := semO 1) (by decide) (cell_erase d L (by decide) (cell_erase d L (by decide) (cell_own d L _ o1)))),
    SparseCore.bigSep_erase' (cell_erase d L (s := semG) (by decide) (cell_erase d L (by decide) (cell_erase d L (by decide)
      (cell_erase d L (by decide) (cell_own d L _ g0)))))]

/-- The tile's own buffers: the two it uses, each at some contents, and the rest. -/
theorem ownBufs_tile :
    (ownBufs (thr d L) : sProp 𝕄)
      = iprop((∃ f, bI d L ↦{fullShare} f) ∗ (∃ f, bO d L ↦{fullShare} f)
          ∗ bigSep (((ownRefs (τ := τ) (.scVector (cV L) (jV L))).erase ((Proc.scVector (cV L) (jV L)).devRef cc0_scoped0)).erase
              ((Proc.scVector (cV L) (jV L)).devRef cc0_scoped2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scoped0) rfl)).trans ?_
  rw [SparseCore.bigSep_erase' (Finset.mem_erase.mpr ⟨fun e => absurd (Proc.devRef_injective _ e) (show (cc0_scoped2 : Ref sig .scVector) ≠ cc0_scoped0 by decide),
    SparseCore.Cfg.mem_ownRefs_of_owner (p := Proc.scVector (cV L) (jV L)) (b := (Proc.scVector (cV L) (jV L)).devRef cc0_scoped2) rfl⟩)]

/-- The two slots of each buffer make the buffer. -/
theorem slotsI_split : iprop(∃ f, bI d L ↦{fullShare} f)
    ⊢ (iprop((∃ f, bI d L ↦[inSlotI 0]{fullShare} f) ∗ (∃ f, bI d L ↦[inSlotI 1]{fullShare} f)) : sProp 𝕄) := by
  rw [← slotsI_union]
  iintro ⟨%f, H⟩
  ihave H := (pointsTo_union slotsI_disjoint).1 $$ H
  icases H with ⟨H, H'⟩
  isplitl [H] <;> (iexists f; iassumption)
theorem slotsI_join : iprop((∃ f, bI d L ↦[inSlotI 0]{fullShare} f) ∗ (∃ f, bI d L ↦[inSlotI 1]{fullShare} f))
    ⊢ (iprop(∃ f, bI d L ↦{fullShare} f) : sProp 𝕄) := by
  rw [← slotsI_union]
  exact two_parts slotsI_disjoint
theorem slotsO_split : iprop(∃ f, bO d L ↦{fullShare} f)
    ⊢ (iprop((∃ f, bO d L ↦[inSlotO 0]{fullShare} f) ∗ (∃ f, bO d L ↦[inSlotO 1]{fullShare} f)) : sProp 𝕄) := by
  rw [← slotsO_union]
  iintro ⟨%f, H⟩
  ihave H := (pointsTo_union slotsO_disjoint).1 $$ H
  icases H with ⟨H, H'⟩
  isplitl [H] <;> (iexists f; iassumption)
theorem slotsO_join : iprop((∃ f, bO d L ↦[inSlotO 0]{fullShare} f) ∗ (∃ f, bO d L ↦[inSlotO 1]{fullShare} f))
    ⊢ (iprop(∃ f, bO d L ↦{fullShare} f) : sProp 𝕄) := by
  rw [← slotsO_union]
  exact two_parts slotsO_disjoint

variable (I : S1x819200.Idx → Elt F .i32) (T : S100000x128.Idx → Elt F .f32) (O₀ : S819200x128.Idx → Elt F .f32)
variable [FloatOps F]

set_option maxHeartbeats 1000000 in
/-- The task on tile `L`: its indices, its share of the table and its block of the output in; the same out, the block
    holding the rows the indices name. -/
theorem tile_body (hF : (K (F := F)).Facts) (hI : ∀ x, (I x).toNat < 100000) (q : PosShare TreeShare)
    (O : CellTallies nD τ sig (HIx 1)) (W : Waits sig (HIx 1)) (hO : ∀ g, O g none = 0) :
    (iprop(levAts (K (F := F)).L (K (F := F)).lev ∗ emp
        ∗ ((iLoc d ↦[cols (first L) (first L + 25600)]{fullShare} I) ∗ (tLoc d ↦{q} T) ∗ oLoc d ↦[rows (first L) (first L + 25600)]{fullShare} O₀)
        ∗ scopedBufs (thr d L) ∗ scopedSems0 (thr d L) ∗ owes (thr d L) O W) : sProp 𝕄)
      ⊢ wp frame (wpE (defs₀ (F := F)) 𝒱₀ (thr d L) none) Set.univ
          (cc0_run L tV (Memref.isWhole_whole _) iV (Memref.isWhole_whole _) oV (Memref.isWhole_whole _)
            sI (Memref.isWhole_whole _) cc0_scoped1 sO (Memref.isWhole_whole _) cc0_scoped3 cc0_scoped4)
          fun _ => iprop(((iLoc d ↦[cols (first L) (first L + 25600)]{fullShare} I) ∗ (tLoc d ↦{q} T)
              ∗ oLoc d ↦[rows (first L) (first L + 25600)]{fullShare} looked I T)
            ∗ scopedBufs (thr d L) ∗ scopedSems0 (thr d L)
            ∗ ∃ W', ⌜∀ p ∈ W', p ∈ W ∨ p.2 = none⌝ ∗ owes (thr d L) O W') := by
  rw [(K (F := F)).scopedBufs_V hF d (cV L) (jV L), SparseCore.Cfg.scopedSems0_V (Val := Elt F) d (cV L) (jV L), ownSems0_tile, ownBufs_tile]
  iintro ⟨#Hlv, -, ⟨Hi, Ht, Ho⟩, ⟨HbI, HbO, Hbufs⟩, ⟨Hi0, Hi1, Ho0, Ho1, Hg, Hsems⟩, HO⟩
  ihave Hmw := (show levAts (K (F := F)).L (K (F := F)).lev ⊢ Transfers.MayWaits (thr d L) (default : HIx 1) O from
    (K (F := F)).mayWaits_none (thr := thr d L) hO) $$ Hlv
  ihave HbI := (slotsI_split d L) $$ HbI
  icases HbI with ⟨HI0, HI1⟩
  ihave HbO := (slotsO_split d L) $$ HbO
  icases HbO with ⟨HO0, HO1⟩
  iapply (Idealize.SL.Sem.wp_wand_r (M := 𝕄) frame (wpE (defs₀ (F := F)) 𝒱₀ (thr d L) none) Set.univ)
  isplitr [Hbufs Hsems]
  · iapply (body_run d L I T O₀ q O W hI)
    isplitl [Hmw]; · iexact Hmw
    isplitl [HI0 HI1 HO0 HO1 Hi0 Hi1 Ho0 Ho1 Hg]
    · unfold atRest idleI idleO
      isplitl [HI0 Hi0]; · isplitl [HI0] <;> iassumption
      isplitl [HI1 Hi1]; · isplitl [HI1] <;> iassumption
      isplitl [HO0 Ho0]; · isplitl [HO0] <;> iassumption
      isplitl [HO1 Ho1]; · isplitl [HO1] <;> iassumption
      iexact Hg
    isplitl [Hi]; · unfold idxPart; iexact Hi
    isplitl [Ht]; · iexact Ht
    isplitl [Ho]; · unfold outPart; iexact Ho
    iapply (owing_of d L O W fun p hp => .inl hp) $$ HO
  unfold atRest idleI idleO idxPart outPart owing
  iintro %_ ⟨⟨⟨HI0, Hi0⟩, ⟨HI1, Hi1⟩, ⟨HO0, Ho0⟩, ⟨HO1, Ho1⟩, Hg⟩, Hi, Ht, Ho, HO⟩
  isplitl [Hi Ht Ho]
  · isplitl [Hi]; · iexact Hi
    isplitl [Ht]; · iexact Ht
    iexact Ho
  isplitl [HI0 HI1 HO0 HO1 Hbufs]
  · isplitl [HI0 HI1]
    · iapply (slotsI_join d L)
      isplitl [HI0] <;> iassumption
    isplitl [HO0 HO1]
    · iapply (slotsO_join d L)
      isplitl [HO0] <;> iassumption
    iexact Hbufs
  isplitl [Hi0 Hi1 Ho0 Ho1 Hg Hsems]
  · isplitl [Hi0]; · iexact Hi0
    isplitl [Hi1]; · iexact Hi1
    isplitl [Ho0]; · iexact Ho0
    isplitl [Ho1]; · iexact Ho1
    isplitl [Hg]; · iexact Hg
    iexact Hsems
  iexact HO

end Tile

end Cert.Proof.Lookup

end
-- ==== Proof.Launch.lean ====
/- The launch: what each SparseCore and each tile is handed and hands back, the host program around the call, and the
   program's run. -/
module

public import proofs.«01_k».proof.Proof.Task

@[expose] public section

noncomputable section

namespace Cert.Proof.Lookup

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ
local notation "iV" => (Memref.whole main_v0_scv : Memref sig Kind.scVector Space.hbm S1x819200 EltTy.i32)
local notation "tV" => (Memref.whole main_arg1_scv : Memref sig Kind.scVector Space.hbm S100000x128 EltTy.f32)
local notation "oV" => (Memref.whole main_v1_scv : Memref sig Kind.scVector Space.hbm S819200x128 EltTy.f32)
local notation "sI" => (Memref.whole cc0_scoped0 : Memref sig Kind.scVector Space.vmem S2x1x128 EltTy.i32)
local notation "sO" => (Memref.whole cc0_scoped2 : Memref sig Kind.scVector Space.vmem S2x128x128 EltTy.f32)

abbrev aLoc (d : Dev nD) : Loc nD τ sig := (SparseCore.T d).loc main_arg0
abbrev rLoc (d : Dev nD) : Loc nD τ sig := (SparseCore.T d).loc main_v2

theorem nCore_zero : (K (F := F)).nCore 0 = 2 := rfl
theorem nSub_zero : (K (F := F)).nSub 0 = 16 := rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The blocks -/

/-- Where SparseCore `c`'s rows begin, and where those of its tile `i` do. -/
abbrev coreAt (c : ℕ) : ℕ := 409600 * c
abbrev tileAt (c i : ℕ) : ℕ := 25600 * i + 409600 * c

theorem cols_cores : (Finset.univ : Finset (Fin 2)).biUnion (fun c => cols (coreAt c) (coreAt c + 409600)) = Finset.univ := by
  ext x
  simp only [Finset.mem_biUnion, Finset.mem_univ, true_and, iff_true, mem_cols]
  have h : (x 1).val < 819200 := (x 1).isLt
  exact ⟨⟨(x 1).val / 409600, by omega⟩, by simp only [coreAt]; omega⟩
theorem rows_cores : (Finset.univ : Finset (Fin 2)).biUnion (fun c => rows (coreAt c) (coreAt c + 409600)) = Finset.univ := by
  ext x
  simp only [Finset.mem_biUnion, Finset.mem_univ, true_and, iff_true, mem_rows]
  have h : (x 0).val < 819200 := (x 0).isLt
  exact ⟨⟨(x 0).val / 409600, by omega⟩, by simp only [coreAt]; omega⟩
theorem cols_tiles (c : ℕ) :
    (Finset.univ : Finset (Fin 16)).biUnion (fun i => cols (tileAt c i) (tileAt c i + 25600)) = cols (coreAt c) (coreAt c + 409600) := by
  ext x
  simp only [Finset.mem_biUnion, Finset.mem_univ, true_and, mem_cols, tileAt, coreAt]
  constructor
  · rintro ⟨i, h⟩; omega
  · intro h; exact ⟨⟨((x 1).val - 409600 * c) / 25600, by omega⟩, by simp only; omega⟩
theorem rows_tiles (c : ℕ) :
    (Finset.univ : Finset (Fin 16)).biUnion (fun i => rows (tileAt c i) (tileAt c i + 25600)) = rows (coreAt c) (coreAt c + 409600) := by
  ext x
  simp only [Finset.mem_biUnion, Finset.mem_univ, true_and, mem_rows, tileAt, coreAt]
  constructor
  · rintro ⟨i, h⟩; omega
  · intro h; exact ⟨⟨((x 0).val - 409600 * c) / 25600, by omega⟩, by simp only; omega⟩

theorem cols_apart {a b w : ℕ} (h : a + w ≤ b ∨ b + w ≤ a) : Disjoint (cols a (a + w)) (cols b (b + w)) :=
  Finset.disjoint_left.mpr fun x hx hx' => by have := mem_cols.mp hx; have := mem_cols.mp hx'; omega
theorem rows_apart {a b w : ℕ} (h : a + w ≤ b ∨ b + w ≤ a) : Disjoint (rows a (a + w)) (rows b (b + w)) :=
  Finset.disjoint_left.mpr fun x hx hx' => by have := mem_rows.mp hx; have := mem_rows.mp hx'; omega
theorem core_apart {c c' : Fin 2} (h : c ≠ c') : coreAt c + 409600 ≤ coreAt c' ∨ coreAt c' + 409600 ≤ coreAt c := by
  have : c.val ≠ c'.val := fun e => h (Fin.ext e)
  unfold coreAt; omega
theorem tile_apart (c : ℕ) {i i' : Fin 16} (h : i ≠ i') : tileAt c i + 25600 ≤ tileAt c i' ∨ tileAt c i' + 25600 ≤ tileAt c i := by
  have : i.val ≠ i'.val := fun e => h (Fin.ext e)
  unfold tileAt; omega

/-! ## What the handshakes carry -/

/-- The share of the table a SparseCore reads through, and a tile of it. -/
abbrev coreShare (c : Fin 2) : PosShare TreeShare := pieceOf fullShare 2 (by decide) c
abbrev tileShare (c : Fin 2) (i : Fin 16) : PosShare TreeShare := pieceOf (coreShare c) 16 (by decide) i

section Pieces

variable (d : Dev nD) (I : S1x819200.Idx → Elt F .i32) (T : S100000x128.Idx → Elt F .f32) (O₀ : S819200x128.Idx → Elt F .f32)

/-- The call's arrays: the indices, the table, the output; whole, a SparseCore's part, a tile's part. -/
abbrev allPts : sProp 𝕄 := iprop((iLoc d ↦{fullShare} I) ∗ (tLoc d ↦{fullShare} T) ∗ oLoc d ↦{fullShare} O₀)
abbrev corePts (c : Fin 2) : sProp 𝕄 :=
  iprop((iLoc d ↦[cols (coreAt c) (coreAt c + 409600)]{fullShare} I) ∗ (tLoc d ↦{coreShare c} T) ∗ oLoc d ↦[rows (coreAt c) (coreAt c + 409600)]{fullShare} O₀)
abbrev tilePts (c : Fin 2) (i : Fin 16) : sProp 𝕄 :=
  iprop((iLoc d ↦[cols (tileAt c i) (tileAt c i + 25600)]{fullShare} I) ∗ (tLoc d ↦{tileShare c i} T)
    ∗ oLoc d ↦[rows (tileAt c i) (tileAt c i + 25600)]{fullShare} O₀)

theorem allPts_cores : (allPts d I T O₀ : sProp 𝕄) = bigSep Finset.univ fun c : Fin 2 => corePts d I T O₀ c := by
  unfold allPts corePts
  rw [bigSep_sep', bigSep_sep', ← pointsTo_piecesOf,
    ← pointsTo_biUnion (ℓ := iLoc d) Finset.univ (fun c : Fin 2 => cols (coreAt c) (coreAt c + 409600)) (fun c _ c' _ h => cols_apart (core_apart h)),
    ← pointsTo_biUnion (ℓ := oLoc d) Finset.univ (fun c : Fin 2 => rows (coreAt c) (coreAt c + 409600)) (fun c _ c' _ h => rows_apart (core_apart h)),
    cols_cores, rows_cores]

theorem corePts_tiles (c : Fin 2) : (corePts d I T O₀ c : sProp 𝕄) = bigSep Finset.univ fun i : Fin 16 => tilePts d I T O₀ c i := by
  unfold corePts tilePts
  rw [bigSep_sep', bigSep_sep', ← pointsTo_piecesOf,
    ← pointsTo_biUnion (ℓ := iLoc d) Finset.univ (fun i : Fin 16 => cols (tileAt c i) (tileAt c i + 25600)) (fun i _ i' _ h => cols_apart (tile_apart c h)),
    ← pointsTo_biUnion (ℓ := oLoc d) Finset.univ (fun i : Fin 16 => rows (tileAt c i) (tileAt c i + 25600)) (fun i _ i' _ h => rows_apart (tile_apart c h)),
    cols_tiles, rows_tiles]

end Pieces

variable (m : (ℓ : Loc nD τ sig) → Buf (Elt F) ℓ) (ρ : Dev nD → PrngReg)

/-- The indices as the call is given them: the argument in one row. -/
def idx (d : Dev nD) : S1x819200.Idx → Elt F .i32 := fun i => shapeCast S1x819200 (m (aLoc d)) shapeCasts_S4096x200_S1x819200 i
/-- The call's result, and the program's. -/
def res (d : Dev nD) : S819200x128.Idx → Elt F .f32 := looked (idx m d) (m (tLoc d))
def out (d : Dev nD) : S4096x200x128.Idx → Elt F .f32 := fun i => shapeCast S4096x200x128 (res m d) shapeCasts_S819200x128_S4096x200x128 i

/-- What the proof asks of the launch memory: every index names a row of the table. -/
def InRange : Prop := ∀ (d : Dev nD) (j : S4096x200.Idx), (m (aLoc d) j).toNat < 100000

variable {m} in
theorem idx_in_range (h : InRange m) (d : Dev nD) (x : S1x819200.Idx) : (idx m d x).toNat < 100000 := h d _

variable [FloatOps F]

def P : (K (F := F)).Pay (nD := nD) (Val := Elt F) (Name := ℕ) (U := UU) where
  st := fun q d c => match q with | 0 => corePts d (idx m d) (m (tLoc d)) (m (oLoc d)) (Fin.cast nCore_zero c)
  dn := fun q d c => match q with | 0 => corePts d (idx m d) (m (tLoc d)) (res m d) (Fin.cast nCore_zero c)
  go := fun q d c i => match q with | 0 => tilePts d (idx m d) (m (tLoc d)) (m (oLoc d)) (Fin.cast nCore_zero c) (Fin.cast nSub_zero i)
  td := fun q d c i => match q with | 0 => tilePts d (idx m d) (m (tLoc d)) (res m d) (Fin.cast nCore_zero c) (Fin.cast nSub_zero i)
  x := fun _ _ => iprop(emp)

instance P_storable : (P (F := F) m).IsStorable where
  st q d c := match q with
    | 0 => (inferInstance : BI.Storable (upEmb : UEmb _ 𝕄) (corePts d (idx m d) (m (tLoc d)) (m (oLoc d)) (Fin.cast nCore_zero c)))
  dn q d c := match q with
    | 0 => (inferInstance : BI.Storable (upEmb : UEmb _ 𝕄) (corePts d (idx m d) (m (tLoc d)) (res m d) (Fin.cast nCore_zero c)))
  go q d c i := match q with
    | 0 => (inferInstance : BI.Storable (upEmb : UEmb _ 𝕄) (tilePts d (idx m d) (m (tLoc d)) (m (oLoc d)) (Fin.cast nCore_zero c) (Fin.cast nSub_zero i)))
  td q d c i := match q with
    | 0 => (inferInstance : BI.Storable (upEmb : UEmb _ 𝕄) (tilePts d (idx m d) (m (tLoc d)) (res m d) (Fin.cast nCore_zero c) (Fin.cast nSub_zero i)))

/-! ## The tiles' obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_tile (c : Fin τ.nSC) (s : Fin τ.nSub) :
    defs₀ (F := F) (.scVector c s) 0 ()
      = SparseCore.onTile hcore0 hsub0 (fun c s => cc0_run (coordsV c s)
          tV (Memref.isWhole_whole _) iV (Memref.isWhole_whole _) oV (Memref.isWhole_whole _)
          sI (Memref.isWhole_whole _) cc0_scoped1 sO (Memref.isWhole_whole _) cc0_scoped3 cc0_scoped4) ⟨⟩ c s := rfl

theorem post_weaken {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hm : InRange m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_tile]; simp only [SparseCore.onTile, hci, and_self, ↓reduceDIte]
  exact (tile_body d (coordsV ⟨_, hci.1⟩ ⟨_, hci.2⟩) (idx m d) (m (tLoc d)) (m (oLoc d)) facts (idx_in_range hm d)
    (tileShare (Fin.cast nCore_zero c) (Fin.cast nSub_zero i)) O W hO).trans (wp_mono frame _ _ fun _ => post_weaken)

theorem overTiles (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
theorem overCores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem vecSplit : (K (F := F)).VecSplit' (P m) 0 := by
  intro d c
  show (corePts d (idx m d) (m (tLoc d)) (m (oLoc d)) (Fin.cast nCore_zero c) : sProp 𝕄) ⊢ |={Set.univ}=> iprop(
      (bigSep Finset.univ fun i : Fin ((K (F := F)).nSub 0) =>
        tilePts d (idx m d) (m (tLoc d)) (m (oLoc d)) (Fin.cast nCore_zero c) (Fin.cast nSub_zero i))
      ∗ ((bigSep Finset.univ fun i : Fin ((K (F := F)).nSub 0) =>
          tilePts d (idx m d) (m (tLoc d)) (res m d) (Fin.cast nCore_zero c) (Fin.cast nSub_zero i))
          -∗ corePts d (idx m d) (m (tLoc d)) (res m d) (Fin.cast nCore_zero c)))
  rw [overTiles (F := F) (fun i => tilePts d (idx m d) (m (tLoc d)) (m (oLoc d)) (Fin.cast nCore_zero c) i),
    overTiles (F := F) (fun i => tilePts d (idx m d) (m (tLoc d)) (res m d) (Fin.cast nCore_zero c) i), ← corePts_tiles, ← corePts_tiles]
  iintro H; imodintro
  isplitl [H]; · iexact H
  iintro H; iexact H

/-! ## The host program -/

def u₀ : UU := (initOf (K (F := F)).hsCells (K (F := F)).hsToks, 1)

theorem emps {J : Type} (s : Finset J) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [emps]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), emps]
  iempintro

theorem unscoped_eq (d : Dev nD) (W : (b : Ref sig .tc) → Buf (Elt F) ((d.tc : Thread nD τ).loc b)) :
    (unscopedBufs d W : sProp 𝕄) = iprop((aLoc d ↦{fullShare} W main_arg0) ∗ (tLoc d ↦{fullShare} W main_arg1) ∗ (iLoc d ↦{fullShare} W main_v0)
      ∗ (oLoc d ↦{fullShare} W main_v1) ∗ rLoc d ↦{fullShare} W main_v2) := by
  unfold unscopedBufs
  rw [show (Finset.univ.filter fun b : Ref sig .tc => ¬ b.isScoped) = {main_arg0, main_arg1, main_v0, main_v1, main_v2} by decide,
    SparseCore.bigSep_insert' (by decide), SparseCore.bigSep_insert' (by decide), SparseCore.bigSep_insert' (by decide),
    SparseCore.bigSep_insert' (by decide), bigSep_singleton]

theorem st0_eq (d : Dev nD) : (bigSep Finset.univ fun c : Fin ((K (F := F)).nCore 0) => (P m).st 0 d c)
    = allPts d (idx m d) (m (tLoc d)) (m (oLoc d)) :=
  (overCores (F := F) (fun c => corePts d (idx m d) (m (tLoc d)) (m (oLoc d)) c)).trans (allPts_cores ..).symm
theorem dn0_eq (d : Dev nD) : (bigSep Finset.univ fun c : Fin ((K (F := F)).nCore 0) => (P m).dn 0 d c)
    = allPts d (idx m d) (m (tLoc d)) (res m d) :=
  (overCores (F := F) (fun c => corePts d (idx m d) (m (tLoc d)) (res m d) c)).trans (allPts_cores ..).symm

/-! ### The two reshapes -/

abbrev bA : DevRef τ sig := Proc.devRef .tc main_arg0
abbrev bV0 : DevRef τ sig := Proc.devRef .tc main_v0
abbrev bV1 : DevRef τ sig := Proc.devRef .tc main_v1
abbrev bV2 : DevRef τ sig := Proc.devRef .tc main_v2

abbrev opIn : HloOp τ sig (Elt F) := StableHlo.reshape main_arg0 main_v0 (rfl : (.i32 : EltTy) = .i32) shapeCasts_S4096x200_S1x819200
abbrev opOut : HloOp τ sig (Elt F) := StableHlo.reshape main_v1 main_v2 (rfl : (.f32 : EltTy) = .f32) shapeCasts_S819200x128_S4096x200x128

/-- The arrays as launched; and with the call's result written. -/
def val0 (d : Dev nD) : Valuation τ sig (Elt F) := fun b => m (d, b)
def val1 (d : Dev nD) : Valuation τ sig (Elt F) := Function.update (val0 m d) bV1 (res m d)

theorem held_two (d : Dev nD) {x y : DevRef τ sig} (h : x ≠ y) (W : Valuation τ sig (Elt F)) :
    (StableHlo.held (SparseCore.T d) {x, y} W : sProp 𝕄) = iprop((((d, x) : Loc nD τ sig) ↦{fullShare} W x) ∗ ((d, y) : Loc nD τ sig) ↦{fullShare} W y) := by
  unfold StableHlo.held
  rw [SparseCore.bigSep_insert' (by rwa [Finset.mem_singleton]), bigSep_singleton]

theorem in_before (d : Dev nD) : (StableHlo.held (SparseCore.T d) {bA, bV0} (val0 m d) : sProp 𝕄)
    = iprop((aLoc d ↦{fullShare} m (aLoc d)) ∗ iLoc d ↦{fullShare} m (iLoc d)) := by
  rw [held_two d (by decide)]
  rfl
theorem in_after (d : Dev nD) : (StableHlo.held (SparseCore.T d) {bA, bV0} ((opIn (F := F)).result (val0 m d)) : sProp 𝕄)
    = iprop((aLoc d ↦{fullShare} m (aLoc d)) ∗ iLoc d ↦{fullShare} idx m d) := by
  rw [held_two d (by decide), StableHlo.reshape_result_ne _ _ _ _ _ _ _ (by decide), StableHlo.reshape_result]
  rfl
theorem out_before (d : Dev nD) : (StableHlo.held (SparseCore.T d) {bV1, bV2} (val1 m d) : sProp 𝕄)
    = iprop((oLoc d ↦{fullShare} res m d) ∗ rLoc d ↦{fullShare} m (rLoc d)) := by
  rw [held_two d (by decide)]
  unfold val1
  rw [Function.update_self, Function.update_of_ne (by decide)]
  rfl
theorem out_after (d : Dev nD) : (StableHlo.held (SparseCore.T d) {bV1, bV2} ((opOut (F := F)).result (val1 m d)) : sProp 𝕄)
    = iprop((oLoc d ↦{fullShare} res m d) ∗ rLoc d ↦{fullShare} out m d) := by
  rw [held_two d (by decide), StableHlo.reshape_result_ne _ _ _ _ _ _ _ (by decide), StableHlo.reshape_result]
  unfold val1
  rw [Function.update_self]
  rfl

abbrev FIN (d : Dev nD) : sProp 𝕄 := iprop((aLoc d ↦{fullShare} m (aLoc d)) ∗ (tLoc d ↦{fullShare} m (tLoc d)) ∗ rLoc d ↦{fullShare} out m d)

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_eq]
  simp only [main, wp_bind, wp_pure]
  iintro ⟨#Hctx, Hst, ⟨Hb, ⟨Ha, Ht, Hi, Ho, Hr⟩, Hts, -⟩, -⟩
  iapply (StableHlo.wp_hlo_within 𝒱 (SparseCore.T d) none Set.univ (op := opIn) (S := {bA, bV0}) (Finset.Subset.refl _) (V := val0 m d)) $$ [Hb Ha Hi]
  · isplitl [Hb]; · iexact Hb
    rw [in_before]
    isplitl [Ha]; · iexact Ha
    iexact Hi
  iintro ⟨Hb, Hh⟩
  ihave Hh := (Entails.of_eq (in_after m d)) $$ Hh
  icases Hh with ⟨Ha, Hi⟩
  rw [wp_ret]; imodintro
  iapply ((K (F := F)).wp_run (D (F := F)) 𝒱 (EH := EH) (P := P m) κ d 0) $$ [Hst Hi Ht Ho Hb Hts Ha Hr]
  isplitr; · iexact Hctx
  isplitl [Hst]; · iexact Hst
  isplitl [Hi Ht Ho]
  · rw [st0_eq]
    isplitl [Hi]; · iexact Hi
    isplitl [Ht]; · iexact Ht
    iexact Ho
  iintro ⟨Hst, Hdn⟩
  ihave Hdn := (Entails.of_eq (dn0_eq m d)) $$ Hdn
  icases Hdn with ⟨-, Ht, Ho⟩
  iapply (StableHlo.wp_hlo_within 𝒱 (SparseCore.T d) none Set.univ (op := opOut) (S := {bV1, bV2}) (Finset.Subset.refl _) (V := val1 m d)) $$ [Hb Ho Hr]
  · isplitl [Hb]; · iexact Hb
    rw [out_before]
    isplitl [Ho]; · iexact Ho
    iexact Hr
  iintro ⟨Hb, Hh⟩
  ihave Hh := (Entails.of_eq (out_after m d)) $$ Hh
  icases Hh with ⟨-, Hr⟩
  rw [wp_ret]; imodintro; imodintro
  isplitl [Hst]; · iexact Hst
  isplitr [Hb Hts]
  · isplitl [Ha]; · iexact Ha
    isplitl [Ht]; · iexact Ht
    iexact Hr
  isplitl [Hb] <;> iassumption

/-! ## The run -/

def fq (d : Dev nD) (s' : Phys nD τ sig (Elt F)) : Prop :=
  s'.mem.mem (aLoc d) = m (aLoc d) ∧ s'.mem.mem (tLoc d) = m (tLoc d) ∧ s'.mem.mem (rLoc d) = out m d

set_option maxRecDepth 16384 in
theorem hfin (d : Dev nD) (s' : Phys nD τ sig (Elt F)) : iprop(FIN m d ∗ SI s') ⊢ (⌜fq m d s'⌝ : sProp 𝕄) := by
  iintro ⟨⟨Ha, Ht, Hr⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (persistent_entails_right (SI_pointsTo_agree (st := s') (ℓ := tLoc d) (I := Finset.univ) (q := fullShare) (f := m (tLoc d)))) $$ [HSI Ht]
  · isplitl [HSI] <;> iassumption
  icases H with ⟨%h2, HSI, -⟩
  ihave H := (SI_pointsTo_agree (st := s') (ℓ := rLoc d) (I := Finset.univ) (q := fullShare) (f := out m d)) $$ [HSI Hr]
  · isplitl [HSI] <;> iassumption
  icases H with %h3
  ipureintro
  exact ⟨funext fun i => h1 i (Finset.mem_univ i), funext fun i => h2 i (Finset.mem_univ i), funext fun i => h3 i (Finset.mem_univ i)⟩

/-- Every device's arguments as launched, its result the lookup, every semaphore at zero. -/
def Ends (r : PUnit × MemSt nD τ sig (Elt F)) : Prop :=
  (∀ c : Dev nD, r.2.mem (aLoc c) = m (aLoc c) ∧ r.2.mem (tLoc c) = m (tLoc c) ∧ r.2.mem (rLoc c) = out m c) ∧ r.2.sem = fun _ => 0

theorem run_main [∀ e, Nonempty (Elt F e)] (hm : InRange m) :
    θ_run (Cert.KernelIdeal.defs (F := F)) (Cert.KernelIdeal.threads (F := F)) ⟨m, fun _ => 0, ρ⟩ (Ends m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m hm)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (Ends m) (fun _ h hz => ⟨h, hz⟩)

end Cert.Proof.Lookup

end
-- ==== Proof.RefValue.lean ====
/- What the reference computes: its composed term — negative indices wrapped, the rows gathered, the rows of indices out of
   range filled — is, for indices in range, the table's rows at the indices. -/
module

public import proofs.«01_k».proof.Proof.Values
public import proofs.«01_k».proof.Proof.Gen.ReferenceIdeal
public import Idealize.ShloMosaic.Lib.ReduceAll

@[expose] public section

noncomputable section

namespace Cert.Proof.Taken

open Idealize.ShloMosaic Cert.ReferenceIdeal Cert.ReferenceIdeal.Gen
open Cert.Proof.Lookup (tblAt)

variable {F : FTy → Type}

/-- The indices with the negative ones wrapped, as a column of start indices. -/
def starts (A : IVec S4096x200 32) : IVec S4096x200x1 32 :=
  broadcastInDim S4096x200x1 ![0, 1] bcast_S4096x200_S4096x200x1_0_1
    (select (cmpi .slt A (broadcastInDim S4096x200 ![] bcast_S_S4096x200 (constantI S_ 32 0#32)))
      (addi A (broadcastInDim S4096x200 ![] bcast_S_S4096x200 (constantI S_ 32 100000#32))) A)

/-- Which indices are in range, one bit each. -/
def valid (A : IVec S4096x200 32) : IVec S4096x200 1 :=
  Host.reduce IntOp.andi
    (andi (cmpi .sge (starts A) (broadcastInDim S4096x200x1 ![] bcast_S_S4096x200x1 (constantI S_ 32 0#32)))
      (cmpi .sle (starts A) (broadcastInDim S4096x200x1 ![0, 1, 2] bcast_S1x1x1_S4096x200x1_0_1_2
        (broadcastInDim S1x1x1 ![2] bcast_S1_S1x1x1_2 (constantI S1 32 99999#32)))))
    (constantI S_ 1 1#1) reducesTo_S4096x200x1_S4096x200_d2 h_S_

/-- The rows gathered at the start indices. -/
def gathered (A : IVec S4096x200 32) (T : FVec F S100000x128 .f32) : FVec F S4096x200x128 .f32 :=
  Host.gather gather_S100000x128_S4096x200x1_S4096x200x128_2_0_n_n_0_2_1128 T (starts A)

/-- The reference's result. -/
def taken [FloatOps F] (A : IVec S4096x200 32) (T : FVec F S100000x128 .f32) : FVec F S4096x200x128 .f32 :=
  select (broadcastInDim S4096x200x128 ![0, 1] bcast_S4096x200_S4096x200x128_0_1 (valid A)) (gathered A T)
    (broadcastInDim S4096x200x128 ![] bcast_S_S4096x200x128 (constant S_ .f32 0x7FC00000#32))

/-- The index that an entry of the result, or of the start indices, belongs to. -/
def place (x : S4096x200x128.Idx) : S4096x200.Idx := fun a => match a with
  | 0 => x 0
  | 1 => x 1
def place₁ (x : S4096x200x1.Idx) : S4096x200.Idx := fun a => match a with
  | 0 => x 0
  | 1 => x 1

theorem select_of_one {α : Type} {s : Shape} {c : IVec s 1} {a b : s.Idx → α} {x : s.Idx} (h : c x = 1#1) : select c a b x = a x := if_pos h

variable {A : IVec S4096x200 32} (hA : ∀ j, (A j).toNat < 100000)
include hA

/-- An index in range, read signed, is its own value. -/
theorem toInt_eq (j : S4096x200.Idx) : (A j).toInt = ((A j).toNat : ℤ) := by
  have h := hA j
  rw [BitVec.toInt_eq_toNat_cond]
  split <;> omega

theorem starts_apply (x : S4096x200x1.Idx) : starts A x = A (place₁ x) := by
  have hsel : ∀ j, select (cmpi .slt A (broadcastInDim S4096x200 ![] bcast_S_S4096x200 (constantI S_ 32 0#32)))
      (addi A (broadcastInDim S4096x200 ![] bcast_S_S4096x200 (constantI S_ 32 100000#32))) A j = A j := by
    intro j
    show Scalar.select (IntOp.cmpi .slt (A j) 0#32) _ (A j) = A j
    refine if_neg fun e => ?_
    have h := IntOp.cmpi_slt.mp e
    rw [toInt_eq hA j] at h
    simp only [BitVec.toInt_zero] at h
    omega
  refine (hsel _).trans (congrArg A (funext fun a => ?_))
  match a with
  | 0 => rfl
  | 1 => rfl

theorem valid_apply (j : S4096x200.Idx) : valid A j = 1#1 := by
  refine Host.reduce_andi_one _ _ _ _ _ rfl fun x => ?_
  show IntOp.andi (IntOp.cmpi .sge (starts A x) 0#32) (IntOp.cmpi .sle (starts A x) 99999#32) = 1#1
  have h := hA (place₁ x)
  rw [starts_apply hA, IntOp.andi_eq_one, IntOp.cmpi_sge, IntOp.cmpi_sle, toInt_eq hA,
    show (0#32 : BitVec 32).toInt = 0 by decide, show (99999#32 : BitVec 32).toInt = 99999 by decide]
  omega

theorem gathered_apply (T : FVec F S100000x128 .f32) (x : S4096x200x128.Idx) :
    gathered A T x = T (tblAt (A (place x)).toNat (x 2).val) := by
  refine congrArg T (funext fun a => Fin.ext ?_)
  let d : GatherDims S100000x128 S4096x200x1 S4096x200x128 := gather_S100000x128_S4096x200x1_S4096x200x128_2_0_n_n_0_2_1128
  show d.start x (starts A) a + d.batchCoord x a + d.offCoord x a = _
  rw [d.batchCoord_eq_zero x a List.not_mem_nil, Nat.add_zero]
  match a with
  | 0 =>
    have hs : d.start x (starts A) 0 = (A (place x)).toNat := by
      unfold GatherDims.start
      rw [dif_pos (show (0 : Fin 2) ∈ d.startIndexMap from List.mem_singleton.mpr rfl), starts_apply hA, toInt_eq hA]
      have hp : place₁ (d.siIdx x ⟨d.startIndexMap.idxOf (0 : Fin 2), List.idxOf_lt_length_iff.2 (List.mem_singleton.mpr rfl)⟩) = place x := by
        funext b
        match b with
        | 0 => rfl
        | 1 => rfl
      rw [hp]
      have h := hA (place x)
      show min (Int.toNat _) (100000 - 1) = _
      omega
    rw [hs, d.offCoord_eq_zero x 0 fun h => ((d.mem_sKept 0).mp h).1 (List.mem_singleton.mpr rfl)]
    exact (Nat.mod_eq_of_lt (hA (place x))).symm
  | 1 =>
    have hs : d.start x (starts A) 1 = 0 := by
      unfold GatherDims.start
      exact dif_neg (by show (1 : Fin 2) ∉ [(0 : Fin 2)]; decide)
    rw [hs, Nat.zero_add]
    exact (Nat.mod_eq_of_lt (show (x 2).val < 128 from (x 2).isLt)).symm

/-- For indices in range the reference's entry `(a, b, k)` is the table's entry `k` of the row that index `(a, b)` names. -/
theorem taken_apply [FloatOps F] (T : FVec F S100000x128 .f32) (x : S4096x200x128.Idx) :
    taken A T x = T (tblAt (A (place x)).toNat (x 2).val) := by
  rw [← gathered_apply hA T x]
  unfold taken
  exact select_of_one (valid_apply hA _)

end Cert.Proof.Taken

end
-- ==== Proof.Final.lean ====
/- The kernel's result is the reference's, and the precondition gives what the run asks of the launch memory. -/
module

public import proofs.«01_k».proof.Proof.Launch
public import proofs.«01_k».proof.Proof.RefValue
public import proofs.«01_k».proof.Defs
public import proofs.«01_k».proof.Proof.Gen.Pre_in_range

@[expose] public section

noncomputable section

namespace Cert.Proof.Lookup

open Idealize.ShloMosaic Cert.KernelIdeal Cert.KernelIdeal.Gen

variable {F : FTy → Type}

/-- Entry `(a, b, k)` of the result stands in row `200 a + b`, column `k`, of the call's output. -/
def flat (x : S4096x200x128.Idx) : S819200x128.Idx := fun a => match a with
  | 0 => ⟨(x 0).val * 200 + (x 1).val, by
      have h0 : (x 0).val < 4096 := (x 0).isLt
      have h1 : (x 1).val < 200 := (x 1).isLt
      show _ < 819200
      omega⟩
  | 1 => x 2

theorem flat_eq (x : S4096x200x128.Idx) : Shape.reshapeEquiv shapeCasts_S819200x128_S4096x200x128 x = flat x :=
  Shape.reshapeEquiv_eq_of_rowMajor _ (by rw [Shape.rowMajor_val_two, Shape.rowMajor_val_three]; rfl)

/-- Index `(a, b)` stands at place `200 a + b` of the list. -/
theorem colAt_place (x : S4096x200x128.Idx) :
    Shape.reshapeEquiv shapeCasts_S4096x200_S1x819200 (colAt (flat x 0).val) = Taken.place x := by
  refine Shape.reshapeEquiv_eq_of_rowMajor _ ?_
  rw [Shape.rowMajor_val_two, Shape.rowMajor_val_two]
  show (x 0).val * 200 + (x 1).val = 0 * 819200 + (flat x 0).val % 819200
  have h : (flat x 0).val < 819200 := (flat x 0).isLt
  have e : (flat x 0).val = (x 0).val * 200 + (x 1).val := rfl
  omega

variable (m : (ℓ : Loc nD τ sig) → Buf (Elt F) ℓ)

/-- The program's result, entry by entry. -/
theorem out_apply (d : Dev nD) (x : S4096x200x128.Idx) :
    out m d x = m (tLoc d) (tblAt (m (aLoc d) (Taken.place x)).toNat (x 2).val) := by
  show looked (idx m d) (m (tLoc d)) (Shape.reshapeEquiv shapeCasts_S819200x128_S4096x200x128 x) = _
  rw [flat_eq]
  show m (tLoc d) (tblAt (m (aLoc d) (Shape.reshapeEquiv shapeCasts_S4096x200_S1x819200 (colAt (flat x 0).val))).toNat (x 2).val) = _
  rw [colAt_place]

/-- In range, the program's result is the reference's of the same arguments. -/
theorem out_eq_taken [FloatOps F] (hm : InRange m) (d : Dev nD) : out m d = Taken.taken (m (aLoc d)) (m (tLoc d)) :=
  funext fun x => (out_apply m d x).trans (Taken.taken_apply (hm d) (m (tLoc d)) x).symm

/-- The precondition read at one device: every index is at least zero and below the table's number of rows. -/
theorem below_of_pre [FloatOps F] (A : IVec S4096x200 32) (T : FVec F S100000x128 .f32)
    (h : @Cert.Pre_in_range.fn Cert.Pre_in_range.Gen.facts F _ A T = fun _ => 1#1) (j : S4096x200.Idx) : (A j).toNat < 100000 := by
  have e := congrFun h (fun a => a.elim0)
  simp only [Cert.Pre_in_range.fn] at e
  obtain ⟨e0, e1⟩ := IntOp.andi_eq_one.mp e
  haveI : Subsingleton (Shape.Idx Cert.Pre_in_range.S_) := ⟨fun a b => funext fun i => i.elim0⟩
  have h0 := IntOp.cmpi_sge.mp (Host.reduce_andi_all _ _ _ _ _ e0 j)
  have h1 := IntOp.cmpi_slt.mp (Host.reduce_andi_all _ _ _ _ _ e1 j)
  change (0#32 : BitVec 32).toInt ≤ (A j).toInt at h0
  change (A j).toInt < (100000#32 : BitVec 32).toInt at h1
  rw [show (0#32 : BitVec 32).toInt = 0 by decide] at h0
  rw [show (100000#32 : BitVec 32).toInt = 100000 by decide] at h1
  rw [BitVec.toInt_eq_toNat_cond] at h0 h1
  split at h0 <;> omega

end Cert.Proof.Lookup

end
-- ==== Proof.lean ====
/- The claims about `kernel`, an embedding lookup on the SparseCores, and `reference`, the table's rows taken at the
   indices: assembled from the modules under `Proof/`. -/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Reference
public import proofs.«01_k».proof.Proof.Gen.Reference.Run
public import proofs.«01_k».proof.Proof.Gen.Pre_in_range
public import proofs.«01_k».proof.Proof.Final
public import Idealize.ShloMosaic.Adequacy
public import Idealize.ShloMosaic.Init

@[expose] public section

noncomputable section

namespace Cert.Proof

open Idealize.ShloMosaic Idealize.SL.Sem Cert.Proof.Lookup

/-- The kernel's indices are in range where the precondition holds. -/
theorem inRange_ideal {m : (ℓ : Loc Cert.KernelIdeal.nD Cert.KernelIdeal.τ Cert.KernelIdeal.sig) → Buf (Elt Ideal) ℓ}
    (h : Cert.Pre_KernelIdeal (hPre_in_range := Cert.Pre_in_range.Gen.facts) m) : InRange m := fun d => below_of_pre _ _ (h d)
theorem inRange_bits {m : (ℓ : Loc Cert.Kernel.nD Cert.Kernel.τ Cert.Kernel.sig) → Buf (Elt Bits) ℓ}
    (h : Cert.Pre_Kernel (hPre_in_range := Cert.Pre_in_range.Gen.facts) m) : InRange (F := Bits) m := fun d => below_of_pre _ _ (h d)

/-- Both kernels run, their arguments unchanged and every semaphore at zero: the one run, its result dropped. -/
theorem frame_ideal : Cert.quiescent_KernelIdeal (hKernelIdeal := Cert.KernelIdeal.Gen.facts) (hPre_in_range := Cert.Pre_in_range.Gen.facts) :=
  fun m ρ h => (θ_run Cert.KernelIdeal.defs _ _).mono (fun _ e => ⟨fun c => ⟨(e.1 c).1, (e.1 c).2.1⟩, e.2⟩) (run_main (F := Ideal) m ρ (inRange_ideal h))
theorem frame_bits : Cert.quiescent_Kernel (hKernel := Cert.Kernel.Gen.facts) (hPre_in_range := Cert.Pre_in_range.Gen.facts) :=
  fun m ρ h => (θ_run Cert.KernelIdeal.defs _ _).mono (fun _ e => ⟨fun c => ⟨(e.1 c).1, (e.1 c).2.1⟩, e.2⟩) (run_main (F := Bits) m ρ (inRange_bits h))

/-- The reference runs, its arguments unchanged; it has no semaphores. -/
theorem frame_reference_ideal : Cert.quiescent_ReferenceIdeal (hReferenceIdeal := Cert.ReferenceIdeal.Gen.facts) (hPre_in_range := Cert.Pre_in_range.Gen.facts) :=
  fun m ρ _ => (θ_run Cert.ReferenceIdeal.defs _ _).mono (fun r e => ⟨fun c => (e c).2, sem_eq_zero_of_no_sems (by decide) r.2⟩)
    (Cert.ReferenceIdeal.Value.run (F := Ideal) m ρ)
theorem frame_reference : Cert.quiescent_Reference (hReference := Cert.Reference.Gen.facts) (hPre_in_range := Cert.Pre_in_range.Gen.facts) :=
  fun m ρ _ => (θ_run Cert.Reference.defs _ _).mono (fun r e => ⟨fun c => (e c).2, sem_eq_zero_of_no_sems (by decide) r.2⟩)
    (Cert.Reference.Value.run (F := Bits) m ρ)

/-- Over the extended reals the kernel's result and the reference's are the rows that the indices name. -/
theorem algebraic : Cert.algebraic_KernelIdeal_ReferenceIdeal (hKernelIdeal := Cert.KernelIdeal.Gen.facts)
    (hReferenceIdeal := Cert.ReferenceIdeal.Gen.facts) (hPre_in_range := Cert.Pre_in_range.Gen.facts) := by
  intro m ρ m' ρ' h hm
  refine ⟨fun c => out m c, ?_, ?_⟩
  · exact (θ_run Cert.KernelIdeal.defs _ _).mono (fun _ e c => ⟨(e.1 c).2.2, (e.1 c).1, (e.1 c).2.1⟩) (run_main (F := Ideal) m ρ (inRange_ideal h))
  · refine (θ_run Cert.ReferenceIdeal.defs _ _).mono (fun r e c => ⟨(e c).1.trans ?_, (e c).2⟩) (Cert.ReferenceIdeal.Value.run (F := Ideal) m' ρ')
    exact (congrArg₂ (Taken.taken (F := Ideal)) (hm c).1 (hm c).2).trans (out_eq_taken (F := Ideal) m (inRange_ideal h) c).symm

/-- And bit for bit. -/
theorem bitexact : Cert.bitexact_Kernel_Reference (hKernel := Cert.Kernel.Gen.facts) (hReference := Cert.Reference.Gen.facts)
    (hPre_in_range := Cert.Pre_in_range.Gen.facts) := by
  intro m ρ m' ρ' h hm
  refine ⟨fun c => out (F := Bits) m c, ?_, ?_⟩
  · exact (θ_run Cert.KernelIdeal.defs _ _).mono (fun _ e c => ⟨(e.1 c).2.2, (e.1 c).1, (e.1 c).2.1⟩) (run_main (F := Bits) m ρ (inRange_bits h))
  · refine (θ_run Cert.Reference.defs _ _).mono (fun r e c => ⟨(e c).1.trans ?_, (e c).2⟩) (Cert.Reference.Value.run (F := Bits) m' ρ')
    exact (congrArg₂ (Taken.taken (F := Bits)) (hm c).1 (hm c).2).trans (out_eq_taken (F := Bits) m (inRange_bits h) c).symm

theorem claim : Cert.Claim := ⟨Cert.Kernel.Gen.facts, Cert.KernelIdeal.Gen.facts, Cert.ReferenceIdeal.Gen.facts, Cert.Reference.Gen.facts, Cert.Pre_in_range.Gen.facts,
  frame_bits, frame_ideal, frame_reference_ideal, frame_reference,
  trivial, algebraic, bitexact⟩

end Cert.Proof

end
